-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x200 : Shape := ⟨2, ![4096, 200]⟩
abbrev S100000x128 : Shape := ⟨2, ![100000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x128 : Shape := ⟨2, ![100000, 128]⟩
abbrev S819200 : Shape := ⟨1, ![819200]⟩
abbrev S1x819200 : Shape := ⟨2, ![1, 819200]⟩
abbrev S819200x128 : Shape := ⟨2, ![819200, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S4096x200x128 : Shape := ⟨3, ![4096, 200, 128]⟩

abbrev nBuf : Table → Nat
  | .hbm => 6
  | .local .scVector .vmem => 2
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S819200, .i32⟩
  | .hbm, ⟨3, _⟩ => ⟨S1x819200, .i32⟩
  | .hbm, ⟨4, _⟩ => ⟨S819200x128, .f32⟩
  | .hbm, ⟨5, _⟩ => ⟨S4096x200x128, .f32⟩
  | .local .scVector .vmem, ⟨0, _⟩ => ⟨S2x1x128, .i32⟩
  | .local .scVector .vmem, ⟨1, _⟩ => ⟨S2x128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c200_i32_27_r0 : BitVec 32 := 200#32
  let v32_r0 : BitVec 32 := Scalar.addi c0_i32_26_r0 c200_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c199_i32_68_r0 : BitVec 32 := 199#32
  let v83_r0 : BitVec 1 := Scalar.cmpi .sge arg5_r0 c199_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c199_i32_55_r0 : BitVec 32 := 199#32
  let v65_r0 : BitVec 1 := Scalar.cmpi .eq arg5_r0 c199_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x819200.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x819200.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S819200x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S819200x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x819200.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x819200.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S819200x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S819200x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c199_i32_33_r0 : BitVec 32 := 199#32
  let v37_r0 : BitVec 32 := Scalar.select v36_r0 c199_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S819200x128.size a)
theorem k0_off19_inb : ∀ (i : grid0.Coords) (v33_4_r0 : BitVec 32) (k0_hw5 : k0_chk5 i v33_4_r0), ∀ a, (k0_off19 i v33_4_r0) a + S128x128.size a ≤ S819200x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S100000x128 : Shape := ⟨2, ![100000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Words.lean ====
/-
  The words of the pipeline: what the grid coordinates, the trip number and the five carried counters make of every
  offset and every condition the kernel computes. Worker `(c, s)` owns the two hundred consecutive blocks from
  `200 * (s + 16 * c)`; at trip `t` the carried words are `t + 1` (index fetches issued), `t` (blocks consumed),
  `t` (write-outs issued), `t - 1` (write-outs waited for) and `t` (step, back at zero after the last trip).
-/
module

public import proofs.«01_k».proof.Proof.Gen.KernelIdeal
public import proofs.«01_k».proof.Proof.Gen.KernelIdeal.Skeleton
public import Idealize.ShloMosaic.Lib.Decide
public import Idealize.ShloMosaic.Lib.Ring.Trips

@[expose] public section

namespace Cert.Proof.Words

open Cert.KernelIdeal Cert.KernelIdeal.Gen
open Idealize.ShloMosaic Idealize.SL.Sem

/-- The first of worker `i`'s two hundred blocks. -/
def base (i : grid0.Coords) : ℕ := 200 * ((i 1).val + 16 * (i 0).val)

/-- A worker's two hundred blocks are among the 6400. -/
theorem base_le (i : grid0.Coords) : base i + 200 ≤ 6400 := by
  have h0 : (i 0).val < 2 := (i 0).isLt
  have h1 : (i 1).val < 16 := (i 1).isLt
  unfold base; omega

/-- The loop makes two hundred trips. -/
theorem trips_eq : k0_t1_loop.trips = 200 := by decide +kernel

/-- The step word before trip `t`: back at zero after the last. -/
def step (t : ℕ) : ℕ := if t = 200 then 0 else t

/-- The five carried words before trip `t`. -/
def carried (t : ℕ) : BitVec 32 × BitVec 32 × BitVec 32 × BitVec 32 × BitVec 32 :=
  (BitVec.ofNat 32 (min (t + 1) 200), BitVec.ofNat 32 t, BitVec.ofNat 32 t, BitVec.ofNat 32 (t - 1), BitVec.ofNat 32 (step t))

/-- Which of the two slots a counter names. -/
theorem rem_two (n : ℕ) (h : n < 2 ^ 32) : (Scalar.remui (BitVec.ofNat 32 n) 2#32).toNat = n % 2 := by
  rw [show (2#32 : BitVec 32) = BitVec.ofNat 32 2 from rfl, Ring.remui_ofNat h (by decide) (by decide), BitVec.toNat_ofNat,
    Nat.mod_eq_of_lt (by omega)]

/-- The slot of counter `n` starts at plane `n % 2`. -/
theorem off4_eq (n : ℕ) (h : n < 2 ^ 32) : k0_off4 (BitVec.ofNat 32 n) = ![n % 2, 0, 0] := by
  show ![(Scalar.remui (BitVec.ofNat 32 n) 2#32).toNat, 0, 0] = _
  rw [rem_two n h]

/-- The semaphore of counter `n` is number `n % 2`. -/
theorem sem_off_eq (n : ℕ) (h : n < 2 ^ 32) : k0_off6 (BitVec.ofNat 32 n) = ![n % 2] := by
  show ![(Scalar.remui (BitVec.ofNat 32 n) 2#32).toNat] = _
  rw [rem_two n h]

/-- Every counter fits in a word. -/
theorem word_lt {n : ℕ} (h : n ≤ 200) : n < 2 ^ 32 := by omega

/-- The next block is fetched at every trip but the last. -/
theorem cond1_eq : ∀ (i : grid0.Coords) (t : Fin k0_t1_loop.trips),
    k0_cond1 i t (BitVec.ofNat 32 t.val) = if t.val < 199 then 1#1 else 0#1 := by decide +kernel
/-- The block's fetch is waited for at every trip. -/
theorem cond2_eq : ∀ (i : grid0.Coords) (t : Fin k0_t1_loop.trips), k0_cond2 i t (BitVec.ofNat 32 t.val) = 1#1 := by decide +kernel
/-- The block is written out at every trip. -/
theorem cond5_eq : ∀ (i : grid0.Coords) (t : Fin k0_t1_loop.trips), k0_cond5 i t (BitVec.ofNat 32 t.val) = 1#1 := by decide +kernel
/-- The previous write-out is waited for at every trip but the first. -/
theorem cond7_eq : ∀ (i : grid0.Coords) (t : Fin k0_t1_loop.trips),
    k0_cond7 i t (BitVec.ofNat 32 t.val) = if t.val = 0 then 0#1 else 1#1 := by decide +kernel

/-- The block fetched at trip `t` is block `t + 1`. -/
theorem off5_eq : ∀ (i : grid0.Coords) (t : Fin k0_t1_loop.trips), t.val < 199 →
    k0_off5 i (BitVec.ofNat 32 t.val) = ![0, 128 * (base i + (t.val + 1))] := by decide +kernel
/-- The block waited for at trip `t` is block `t`. -/
theorem off8_eq : ∀ (i : grid0.Coords) (t : Fin k0_t1_loop.trips),
    k0_off8 i (BitVec.ofNat 32 t.val) = ![0, 128 * (base i + t.val)] := by decide +kernel
/-- The block written out at trip `t` is block `t`. -/
theorem off13_eq : ∀ (i : grid0.Coords) (t : Fin k0_t1_loop.trips),
    k0_off13 i (BitVec.ofNat 32 t.val) = ![128 * (base i + t.val), 0] := by decide +kernel
/-- The write-out waited for at trip `t` is that of block `t - 1`. -/
theorem off16_eq : ∀ (i : grid0.Coords) (t : Fin k0_t1_loop.trips), t.val ≠ 0 →
    k0_off16 i (BitVec.ofNat 32 t.val) = ![128 * (base i + (t.val - 1)), 0] := by decide +kernel
/-- The write-out waited for after the loop is that of the last block. -/
theorem off19_eq : ∀ (i : grid0.Coords), k0_off19 i 0#32 = ![128 * (base i + 199), 0] := by decide +kernel

/-! ## The words a trip carries on -/

/-- The base word of worker `i`'s blocks, as the kernel computes it. -/
def w4 (i : grid0.Coords) : BitVec 32 :=
  Scalar.muli (Scalar.addi (Scalar.addi 0#32 (Scalar.muli (BitVec.ofNat 32 (i 1).val) 1#32)) (Scalar.muli (BitVec.ofNat 32 (i 0).val) 16#32)) 200#32

/-- The five words trip `t` yields, from the five it was given, as the kernel computes them. -/
def yielded (i : grid0.Coords) (t : Fin k0_t1_loop.trips) (a : BitVec 32 × BitVec 32 × BitVec 32 × BitVec 32 × BitVec 32) :
    BitVec 32 × BitVec 32 × BitVec 32 × BitVec 32 × BitVec 32 :=
  let iv := Scf.iv 0#32 1#32 t
  let here := Scalar.addi a.2.2.2.2 (w4 i)
  let back := Scalar.select 1#1 (Scalar.subi a.2.2.2.2 1#32) a.2.2.2.2
  let prev := Scalar.addi (Scalar.select (Scalar.cmpi .eq back 4294967295#32) 199#32 back) (w4 i)
  let on := Scalar.select 1#1 (Scalar.addi a.2.2.2.2 1#32) a.2.2.2.2
  let wrapped := Scalar.select (Scalar.cmpi .eq on 200#32) 0#32 on
  let next := Scalar.addi wrapped (w4 i)
  (Scalar.select (Scalar.andi (Scalar.andi (Scalar.cmpi .ne here next) (Scalar.xori (Scalar.cmpi .sge iv 199#32) 1#1)) 1#1) (Scalar.addi a.1 1#32) a.1,
   Scalar.select (Scalar.ori (Scalar.cmpi .ne here next) (Scalar.cmpi .eq iv 199#32)) (Scalar.addi a.2.1 1#32) a.2.1,
   Scalar.select (Scalar.andi (Scalar.ori (Scalar.cmpi .ne here next) (Scalar.cmpi .eq iv 199#32)) 1#1) (Scalar.addi a.2.2.1 1#32) a.2.2.1,
   Scalar.select (Scalar.andi (Scalar.andi (Scalar.cmpi .ne here prev) (Scalar.xori (Scalar.cmpi .eq iv 0#32) 1#1)) 1#1) (Scalar.addi a.2.2.2.1 1#32) a.2.2.2.1,
   wrapped)

/-- A trip's words are the next trip's. -/
theorem yielded_carried : ∀ (i : grid0.Coords) (t : Fin k0_t1_loop.trips), yielded i t (carried t.val) = carried (t.val + 1) := by decide +kernel

/-- The step counter at trip `t`. -/
theorem step_lt {t : ℕ} (h : t < 200) : step t = t := if_neg (by omega)

/-- The five counters at trip `t`. -/
theorem carried_lt {t : ℕ} (h : t < 200) :
    carried t = (BitVec.ofNat 32 (t + 1), BitVec.ofNat 32 t, BitVec.ofNat 32 t, BitVec.ofNat 32 (t - 1), BitVec.ofNat 32 t) := by
  unfold carried; rw [step_lt h, show min (t + 1) 200 = t + 1 by omega]

/-! ## The bounds the kernel assumes -/

/-- The index slot of a counter lies inside its scratch. -/
theorem inb_idx {n : ℕ} (h : n < 2 ^ 32) : ∀ a, (k0_off4 (BitVec.ofNat 32 n)) a + S1x1x128.size a ≤ S2x1x128.size a := by
  rw [off4_eq n h]
  have := Nat.mod_lt n (show 2 > 0 by decide)
  intro a
  match a with
  | 0 => show n % 2 + 1 ≤ 2; omega
  | 1 => show 0 + 1 ≤ 1; omega
  | 2 => show 0 + 128 ≤ 128; omega

/-- The row slot of a counter lies inside its scratch. -/
theorem inb_row {n : ℕ} (h : n < 2 ^ 32) : ∀ a, (k0_off4 (BitVec.ofNat 32 n)) a + S1x128x128.size a ≤ S2x128x128.size a := by
  rw [off4_eq n h]
  have := Nat.mod_lt n (show 2 > 0 by decide)
  intro a
  match a with
  | 0 => show n % 2 + 1 ≤ 2; omega
  | 1 => show 0 + 128 ≤ 128; omega
  | 2 => show 0 + 128 ≤ 128; omega

/-- The semaphore of a counter is one of its pair. -/
theorem inb_sem {n : ℕ} (h : n < 2 ^ 32) : ∀ a, (k0_off6 (BitVec.ofNat 32 n)) a + S1.size a ≤ S2.size a := by
  rw [sem_off_eq n h]
  have := Nat.mod_lt n (show 2 > 0 by decide)
  intro a
  match a with
  | 0 => show n % 2 + 1 ≤ 2; omega

/-- A block of ids lies inside the row of ids. -/
theorem inb_ids {n : ℕ} (h : n < 6400) : ∀ a, (![0, 128 * n] : Fin 2 → ℕ) a + S1x128.size a ≤ S1x819200.size a := by
  intro a
  match a with
  | 0 => show 0 + 1 ≤ 1; omega
  | 1 => show 128 * n + 128 ≤ 819200; omega

/-- A block of rows lies inside the output. -/
theorem inb_out {n : ℕ} (h : n < 6400) : ∀ a, (![128 * n, 0] : Fin 2 → ℕ) a + S128x128.size a ≤ S819200x128.size a := by
  intro a
  match a with
  | 0 => show 128 * n + 128 ≤ 819200; omega
  | 1 => show 0 + 128 ≤ 128; omega

/-- The gather's index slot lies inside its scratch. -/
theorem chk3 {t : ℕ} (h : t < 200) : k0_chk3 (BitVec.ofNat 32 t) := inb_idx (by omega)
/-- The gather's row slot lies inside its scratch. -/
theorem chk2 {t : ℕ} (h : t < 200) : k0_chk2 (BitVec.ofNat 32 t) := inb_row (by omega)
/-- Every window a trip addresses lies inside its array. -/
theorem chk1 (i : grid0.Coords) (t : Fin k0_t1_loop.trips) :
    k0_chk1 i t (BitVec.ofNat 32 (t.val + 1)) (BitVec.ofNat 32 t.val) (BitVec.ofNat 32 t.val) (BitVec.ofNat 32 (t.val - 1)) (BitVec.ofNat 32 t.val) := by
  have ht : t.val < 200 := trips_eq ▸ t.isLt
  have hb := base_le i
  refine ⟨fun _ => inb_idx (by omega), fun h => ?_, fun _ => inb_sem (by omega), fun _ => inb_idx (by omega), fun _ => ?_, fun _ => inb_sem (by omega),
    fun _ => inb_row (by omega), fun _ => ?_, fun _ => inb_sem (by omega), fun _ => inb_row (by omega), fun h => ?_, fun _ => inb_sem (by omega)⟩
  · have h' : t.val < 199 := by
      by_contra hn
      rw [cond1_eq, if_neg hn] at h; exact absurd h (by decide)
    rw [off5_eq i t h']; exact inb_ids (by omega)
  · rw [off8_eq i t]; exact inb_ids (by omega)
  · rw [off13_eq i t]; exact inb_out (by omega)
  · have h' : t.val ≠ 0 := by
      intro hn
      rw [cond7_eq, if_pos hn] at h; exact absurd h (by decide)
    rw [off16_eq i t h']; exact inb_out (by omega)
/-- The last block lies inside the output. -/
theorem chk5 (i : grid0.Coords) : k0_chk5 i 0#32 := by
  show ∀ a, (k0_off19 i 0#32) a + S128x128.size a ≤ S819200x128.size a
  have hb := base_le i
  rw [off19_eq i]; exact inb_out (by omega)
/-- The last block's slot and semaphore lie inside theirs. -/
theorem chk4 : k0_chk4 (BitVec.ofNat 32 199) := ⟨inb_row (by omega), inb_sem (by omega), inb_row (by omega)⟩

end Cert.Proof.Words
-- ==== Proof.Views.lean ====
/-
  The windows the pipeline addresses, named once: the two slots of its index scratch and of its row scratch, the block of
  128 ids it fetches and the block of 128 rows it writes out, the table; and what a transfer through them carries. A
  gathered block holds, at row `x` of the whole output, the table's row that id `x` names (`gval`).
-/
module

public import proofs.«01_k».proof.Proof.Words
public import Idealize.ShloMosaic.Lib.SparseCore.Stream
public import Idealize.ShloMosaic.Lib.ValueLayout

@[expose] public section

noncomputable section

namespace Cert.Proof.Views

open Cert.KernelIdeal Cert.KernelIdeal.Gen
open Idealize.ShloMosaic Idealize.SL.Sem
open Cert.Proof.Words
open Idealize.ShloMosaic.ValueIdx

variable {F : FTy → Type}

/-- The table, the flat ids and the flat output as a tile addresses them, and its two scratch buffers. -/
abbrev tV : Memref sig .scVector .hbm S100000x128 .f32 := Memref.whole main_arg1_scv
/-- The row of all ids. -/
abbrev iV : Memref sig .scVector .hbm S1x819200 .i32 := Memref.whole main_v1_scv
/-- The whole output. -/
abbrev oV : Memref sig .scVector .hbm S819200x128 .f32 := Memref.whole main_v2_scv
/-- The index scratch, both slots. -/
abbrev sV : Memref sig .scVector .vmem S2x1x128 .i32 := Memref.whole cc0_scoped0
/-- The row scratch, both slots. -/
abbrev rV : Memref sig .scVector .vmem S2x128x128 .f32 := Memref.whole cc0_scoped2

/-- Index slot `b` lies inside its scratch. -/
theorem slotI_inb (b : Fin 2) : ∀ a, (![b.val, 0, 0] : Fin 3 → ℕ) a + S1x1x128.size a ≤ S2x1x128.size a := by
  have := b.isLt
  intro a
  match a with
  | 0 => show b.val + 1 ≤ 2; omega
  | 1 => show 0 + 1 ≤ 1; omega
  | 2 => show 0 + 128 ≤ 128; omega
/-- Row slot `b` lies inside its scratch. -/
theorem slotR_inb (b : Fin 2) : ∀ a, (![b.val, 0, 0] : Fin 3 → ℕ) a + S1x128x128.size a ≤ S2x128x128.size a := by
  have := b.isLt
  intro a
  match a with
  | 0 => show b.val + 1 ≤ 2; omega
  | 1 => show 0 + 128 ≤ 128; omega
  | 2 => show 0 + 128 ≤ 128; omega
/-- Semaphore `b` of a pair is one of the pair. -/
theorem sem_inb (b : Fin 2) : ∀ a, (![b.val] : Fin 1 → ℕ) a + S1.size a ≤ S2.size a := by
  have := b.isLt
  intro a
  match a with
  | 0 => show b.val + 1 ≤ 2; omega

/-- Slot `b` of the index scratch, as the 1 × 128 block a fetch fills. -/
abbrev slotI (b : Fin 2) : Memref sig .scVector .vmem S1x128 .i32 :=
  ((sV).slice (Rect.unit (s := S2x1x128) ![b.val, 0, 0] S1x1x128.size (slotI_inb b)) (fun _ => rfl)).squeeze S1x128 squeezes_S1x1x128_S1x128
/-- The same slot as the list of 128 row numbers the gather reads. -/
abbrev listI (b : Fin 2) : Memref sig .scVector .vmem S128 .i32 :=
  ((slotI b).slice (Rect.unit (s := S1x128) ![0, 0] S1x128.size inb_S1x128_S1x128_0_0) (fun _ => rfl)).squeeze S128 squeezes_S1x128_S128
/-- Slot `b` of the row scratch. -/
abbrev slotR (b : Fin 2) : Memref sig .scVector .vmem S128x128 .f32 :=
  ((rV).slice (Rect.unit (s := S2x128x128) ![b.val, 0, 0] S1x128x128.size (slotR_inb b)) (fun _ => rfl)).squeeze S128x128 squeezes_S1x128x128_S128x128
/-- The table, through the gather's slice of all of it. -/
abbrev tAll : Memref sig .scVector .hbm S100000x128 .f32 :=
  (tV).slice (Rect.unit (s := S100000x128) ![0, 0] S100000x128.size inb_S100000x128_S100000x128_0_0) (fun _ => rfl)
/-- Block `n` of the ids. -/
abbrev blkI (n : Fin 6400) : Memref sig .scVector .hbm S1x128 .i32 :=
  (iV).slice (Rect.unit (s := S1x819200) ![0, 128 * n.val] S1x128.size (inb_ids n.isLt)) (fun _ => rfl)
/-- Block `n` of the output. -/
abbrev blkO (n : Fin 6400) : Memref sig .scVector .hbm S128x128 .f32 :=
  (oV).slice (Rect.unit (s := S819200x128) ![128 * n.val, 0] S128x128.size (inb_out n.isLt)) (fun _ => rfl)
/-- The semaphore of index slot `b`, that of row slot `b`, and the gather's. -/
abbrev semI (b : Fin 2) : DmaSem sig := ((cc0_scoped1.slice (Rect.unit (s := S2) ![b.val] S1.size (sem_inb b))).squeeze S_ squeezes_S1_S_).sem
/-- The semaphore of slot `b`'s write-outs. -/
abbrev semO (b : Fin 2) : DmaSem sig := ((cc0_scoped3.slice (Rect.unit (s := S2) ![b.val] S1.size (sem_inb b))).squeeze S_ squeezes_S1_S_).sem
/-- The semaphore of the gathers. -/
abbrev semG : DmaSem sig := cc0_scoped4.sem

/-! ## Where the windows' elements lie -/

/-- Position `k` of block `n`, among all the ids. -/
def idAt (n : Fin 6400) (k : Fin 128) : Fin 819200 := ⟨128 * n.val + k.val, by omega⟩

/-- Entry `x` of id block `n` is id `128 n + x`. -/
theorem blkI_emb (n : Fin 6400) (x : S1x128.Idx) : (blkI n).view.emb x = (ix2 0 (idAt n (x 1)) : S1x819200.Idx) := by
  funext a
  match a with
  | 0 => exact Fin.ext (show 0 + 1 * (x 0).val = 0 by have : (x 0).val < 1 := (x 0).isLt; omega)
  | 1 => exact Fin.ext (show 128 * n.val + 1 * (x 1).val = 128 * n.val + (x 1).val by omega)

/-- Row `y` of output block `n` is row `128 n + y`. -/
theorem blkO_emb (n : Fin 6400) (y : S128x128.Idx) : (blkO n).view.emb y = (ix2 (idAt n (y 0)) (y 1) : S819200x128.Idx) := by
  funext a
  match a with
  | 0 => exact Fin.ext (show 128 * n.val + 1 * (y 0).val = 128 * n.val + (y 0).val by omega)
  | 1 => exact Fin.ext (show 0 + 1 * (y 1).val = (y 1).val by omega)

/-- The table whole is the table. -/
theorem tAll_emb (y : S100000x128.Idx) : (tAll).view.emb y = y := by
  funext a
  match a with
  | 0 => exact Fin.ext (show 0 + 1 * (y 0).val = (y 0).val by omega)
  | 1 => exact Fin.ext (show 0 + 1 * (y 1).val = (y 1).val by omega)

/-- Entry `k` of a slot's list is entry `k` of the slot. -/
theorem listI_emb (b : Fin 2) (k : Fin 128) : (listI b).view.emb (ix1 k : S128.Idx) = (slotI b).view.emb (ix2 0 k : S1x128.Idx) := by
  have h : Shape.reshapeEquiv squeezes_S1x128_S128.numel_eq (ix1 k : S128.Idx) = (ix2 0 k : S1x128.Idx) :=
    Shape.reshapeEquiv_eq_of_rowMajor _ (by
      rw [Shape.rowMajor_val_two, Shape.rowMajor_val_one]
      show 0 * 128 + k.val = k.val
      omega)
  show (slotI b).view.emb ((Rect.unit (s := S1x128) ![0, 0] S1x128.size inb_S1x128_S1x128_0_0).emb
    (Shape.reshapeEquiv squeezes_S1x128_S128.numel_eq (ix1 k : S128.Idx))) = _
  rw [h]
  congr 1
  funext a
  match a with
  | 0 => exact Fin.ext (show 0 + 1 * 0 = 0 by omega)
  | 1 => exact Fin.ext (show 0 + 1 * k.val = k.val by omega)

/-- A slot's list lies in the slot. -/
theorem listI_set (b : Fin 2) : (listI b).view.set ⊆ (slotI b).view.set := by
  show (((slotI b).view.slice (Rect.unit (s := S1x128) ![0, 0] S1x128.size inb_S1x128_S1x128_0_0)).reshape S128 squeezes_S1x128_S128.numel_eq).set ⊆ _
  rw [View.set_reshape]
  exact View.set_slice_subset _ _

/-! ## What the transfers carry -/

/-- The gathered rows: row `x` is the table's row id `x` names. -/
def gval (fi : S1x819200.Idx → Elt F .i32) (ft : S100000x128.Idx → Elt F .f32) (x : S819200x128.Idx) : Elt F .f32 :=
  ft (ix2 ⟨(fi (ix2 0 (x 0)) : BitVec 32).toNat % 100000, Nat.mod_lt _ (by decide)⟩ (x 1))

/-- Index slot `b` lists block `n`'s ids. -/
def Lists (fi : S1x819200.Idx → Elt F .i32) (b : Fin 2) (n : Fin 6400) (f : S2x1x128.Idx → Elt F .i32) : Prop :=
  ∀ k : Fin 128, (listI b).view.read (Elt F) f (ix1 k) = fi (ix2 0 (idAt n k))

/-- Row slot `b` holds block `n` of the gathered rows. -/
def Holds (fi : S1x819200.Idx → Elt F .i32) (ft : S100000x128.Idx → Elt F .f32) (b : Fin 2) (n : Fin 6400) (f : S2x128x128.Idx → Elt F .f32) : Prop :=
  ∀ y : S128x128.Idx, (slotR b).view.read (Elt F) f y = gval fi ft ((blkO n).view.emb y)

/-- A fetch of block `n` leaves its ids in the slot's list. -/
theorem lists_of_fetch (fi : S1x819200.Idx → Elt F .i32) (b : Fin 2) (n : Fin 6400) (f : S2x1x128.Idx → Elt F .i32) :
    Lists fi b n ((slotI b).view.write (Elt F) f ((blkI n).view.read (Elt F) fi) Finset.univ) := by
  intro k
  have h : (listI b).view.read (Elt F) ((slotI b).view.write (Elt F) f ((blkI n).view.read (Elt F) fi) Finset.univ) (ix1 k)
      = (slotI b).view.read (Elt F) ((slotI b).view.write (Elt F) f ((blkI n).view.read (Elt F) fi) Finset.univ) (ix2 0 k) := by
    rw [View.read_apply, View.read_apply, listI_emb]
  rw [h, View.read_write_univ]
  exact ((View.read_apply _ _).trans (cast_eq _ _)).trans (congrArg fi (blkI_emb n _))

/-- The gather through a slot that lists block `n`'s ids fills the row slot with block `n` of the gathered rows. -/
theorem holds_of_gather (fi : S1x819200.Idx → Elt F .i32) (ft : S100000x128.Idx → Elt F .f32)
    (hfi : ∀ x, (fi x : BitVec 32).toNat < 100000) (b : Fin 2) (n : Fin 6400) (fo : S2x1x128.Idx → Elt F .i32) (hfo : Lists fi b n fo)
    (fd : S2x128x128.Idx → Elt F .f32) (hin) :
    Holds fi ft b n ((slotR b).view.write (Elt F) fd
      (SparseCore.gatherPayload gathers_S100000x128_S128x128 ((tAll).view.read (Elt F) ft)
        (SparseCore.rows ((listI b).view.read (Elt F) fo) (rfl : S128.numel = S128x128.size gathers_S100000x128_S128x128.axis') hin)) Finset.univ) := by
  intro y
  rw [View.read_write_univ]
  unfold SparseCore.gatherPayload
  refine ((View.read_apply _ _).trans (cast_eq _ _)).trans ?_
  rw [tAll_emb, blkO_emb]
  unfold gval
  congr 1
  funext a
  match a with
  | 0 =>
    refine (Shape.Gathers.idx_axis gathers_S100000x128_S128x128 _ y).trans (Fin.ext ?_)
    have hk : S128.rowMajor.symm (((y gathers_S100000x128_S128x128.axis').cast (rfl : S128.numel = S128x128.size gathers_S100000x128_S128x128.axis').symm))
        = (ix1 (y 0) : S128.Idx) := by
      rw [Equiv.symm_apply_eq]; exact Fin.ext (Shape.rowMajor_val_one (ix1 (y 0) : S128.Idx)).symm
    have e : (listI b).view.read (Elt F) fo (S128.rowMajor.symm (((y gathers_S100000x128_S128x128.axis').cast
        (rfl : S128.numel = S128x128.size gathers_S100000x128_S128x128.axis').symm))) = fi (ix2 0 (idAt n (y 0))) :=
      (congrArg ((listI b).view.read (Elt F) fo) hk).trans (hfo (y 0))
    exact (congrArg BitVec.toNat e).trans (Nat.mod_eq_of_lt (hfi _)).symm
  | 1 => exact Fin.ext (Shape.Gathers.idx_of_ne gathers_S100000x128_S128x128 _ y 1 (by decide))

/-- A listed slot's words are rows of the table. -/
theorem lists_inb (fi : S1x819200.Idx → Elt F .i32) (hfi : ∀ x, (fi x : BitVec 32).toNat < 100000) (b : Fin 2) (n : Fin 6400)
    (fo : S2x1x128.Idx → Elt F .i32) (hfo : Lists fi b n fo) :
    ∀ x, ((listI b).view.read (Elt F) fo x : BitVec 32).toNat < S100000x128.size gathers_S100000x128_S128x128.axis := by
  intro x
  have e : (listI b).view.read (Elt F) fo x = fi (ix2 0 (idAt n (x 0))) :=
    (congrArg ((listI b).view.read (Elt F) fo) (show x = (ix1 (x 0) : S128.Idx) from eq_ix1 x)).trans (hfo (x 0))
  exact (congrArg BitVec.toNat e).trans_lt (hfi _)

/-- The write-out of a slot holding block `n` leaves the output's block `n` at the gathered rows. -/
theorem write_out (fi : S1x819200.Idx → Elt F .i32) (ft : S100000x128.Idx → Elt F .f32) (b : Fin 2) (n : Fin 6400)
    (fr : S2x128x128.Idx → Elt F .f32) (hfr : Holds fi ft b n fr) (fd : S819200x128.Idx → Elt F .f32) :
    ∀ i ∈ (blkO n).view.set, (blkO n).view.write (Elt F) fd ((slotR b).view.read (Elt F) fr) Finset.univ i = gval fi ft i := by
  intro i hi
  obtain ⟨y, -, rfl⟩ := Finset.mem_map.mp hi
  rw [View.write_emb_of_mem _ _ (Finset.mem_univ y), hfr y]
  exact cast_eq _ _

end Cert.Proof.Views

end
-- ==== Proof.Steps.lean ====
/-
  The pipeline's steps, one theorem each: a fetch of a block of ids into an index slot and its wait, the gather of the
  rows a slot lists, a write-out of a row slot and its wait. Each is stated at any offsets the kernel computes, given what
  they are equal to, and speaks of a slot's state by name: free, being fetched, listing a block; free, holding a block's
  rows, being written out.
-/
module

public import proofs.«01_k».proof.Proof.Views
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Steps

open Cert.KernelIdeal Cert.KernelIdeal.Gen
open Cert.Proof.Words Cert.Proof.Views

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the program's procedures. -/
abbrev ΛP : Labels := Pipeline.Sig Λ₀ (Fin 0) fun p => (pcfgs (F := F) p).Adm
/-- The SparseCore call of the program. -/
abbrev K : SparseCore.Cfg τ sig (ΛP (F := F)) 1 := sc (F := F)
/-- No procedure has a variant. -/
abbrev 𝒱₀ : Variants := Variants.none

/-- The handshakes' ghost state. -/
abbrev UH : Type := URounds (GSem nD τ sig) ℕ
/-- The whole ghost state: the handshakes' and the transfers' counters. -/
abbrev UU : Type := UH × Counters

local notation "𝕄" => MT nD τ sig (HIx 1) (Elt F) ℕ UU ℕ

/-- The SparseCore of grid coordinates `L`. -/
abbrev cV (L : grid0.Coords) : Fin τ.nSC := (L 0).castLE hcore0
/-- The tile, in its SparseCore, of grid coordinates `L`. -/
abbrev jV (L : grid0.Coords) : Fin τ.nSub := (L 1).castLE hsub0
/-- The tile at grid coordinates `L` of device `d`. -/
abbrev thr (d : Dev nD) (L : grid0.Coords) : Thread nD τ := V d (cV L) (jV L)

/-- The slot a counter names. -/
def par (t : ℕ) : Fin 2 := ⟨t % 2, Nat.mod_lt _ (by decide)⟩

section Tile

variable (d : Dev nD) (L : grid0.Coords)
variable (fi : S1x819200.Idx → Elt F .i32) (ft : S100000x128.Idx → Elt F .f32)
variable (iq : Fin 2 → PosShare TreeShare) (tq : PosShare TreeShare)
variable (O : CellTallies nD τ sig (HIx 1)) (W : Waits sig (HIx 1))

/-! ## What a tile holds -/

/-- The share of the ids kept for fetches into slot `b`. -/
abbrev ids (b : Fin 2) : sProp 𝕄 := (iV).view.loc (thr d L) ↦{iq b} fi
/-- The tile's share of the table. -/
abbrev tbl : sProp 𝕄 := (tV).view.loc (thr d L) ↦{tq} ft
/-- Slot `b` of the index scratch at contents `f`. -/
abbrev ptsI (b : Fin 2) (f : S2x1x128.Idx → Elt F .i32) : sProp 𝕄 := (slotI b).view.loc (thr d L) ↦[(slotI b).view.set]{fullShare} f
/-- Slot `b` of the row scratch at contents `f`. -/
abbrev ptsR (b : Fin 2) (f : S2x128x128.Idx → Elt F .f32) : sProp 𝕄 := (slotR b).view.loc (thr d L) ↦[(slotR b).view.set]{fullShare} f
/-- Block `n` of the output at contents `f`. -/
abbrev ptsO (n : Fin 6400) (f : S819200x128.Idx → Elt F .f32) : sProp 𝕄 := (blkO n).view.loc (thr d L) ↦[(blkO n).view.set]{fullShare} f

/-- Index slot `b` free: nothing in flight on its semaphore, its share of the ids at hand. -/
def IFree (b : Fin 2) : sProp 𝕄 :=
  iprop((∃ f, ptsI d L b f) ∗ semVal (thr d L, SemLoc.dma (semI b)) 0 ∗ ids d L fi iq b)
/-- Block `n`'s ids on their way to index slot `b`. -/
def Fetching (b : Fin 2) (n : Fin 6400) : sProp 𝕄 :=
  iprop(Transfers.Flight countersEmb (thr d L) (SemLoc.dma (semI b)) (default : HIx 1) (slotI b).view.dmaCredit
      iprop((∃ f, ⌜Lists fi b n f⌝ ∗ ptsI d L b f) ∗ (blkI n).view.loc (thr d L) ↦[(blkI n).view.set]{iq b} fi)
    ∗ (iV).view.loc (thr d L) ↦[Finset.univ \ (blkI n).view.set]{iq b} fi)
/-- Index slot `b` listing block `n`. -/
def Listed (b : Fin 2) (n : Fin 6400) : sProp 𝕄 :=
  iprop((∃ f, ⌜Lists fi b n f⌝ ∗ ptsI d L b f) ∗ semVal (thr d L, SemLoc.dma (semI b)) 0 ∗ ids d L fi iq b)
/-- Row slot `b` free. -/
def RFree (b : Fin 2) : sProp 𝕄 :=
  iprop((∃ f, ptsR (F := F) d L b f) ∗ semVal (thr d L, SemLoc.dma (semO b)) 0)
/-- Row slot `b` holding block `n`'s rows. -/
def Held (b : Fin 2) (n : Fin 6400) : sProp 𝕄 :=
  iprop((∃ f, ⌜Holds fi ft b n f⌝ ∗ ptsR (F := F) d L b f) ∗ semVal (thr d L, SemLoc.dma (semO b)) 0)
/-- Row slot `b` on its way to the output's block `n`. -/
def Writing (b : Fin 2) (n : Fin 6400) : sProp 𝕄 :=
  Transfers.Flight countersEmb (thr d L) (SemLoc.dma (semO b)) (default : HIx 1) (blkO n).view.dmaCredit
    iprop(ptsO d L n (gval fi ft) ∗ ∃ f, ptsR (F := F) d L b f)
/-- The gather's own: the share of the table and its semaphore at zero. -/
def Table : sProp 𝕄 := iprop(tbl d L ft tq ∗ semVal (thr d L, SemLoc.dma semG) 0)
/-- What the tile owes, its waits recorded at no index the launch speaks of. -/
def Owe : sProp 𝕄 :=
  iprop(levAts (K (F := F)).L (K (F := F)).lev ∗ ∃ W' : Waits sig (HIx 1), ⌜∀ p ∈ W', p ∈ W ∨ p.2 = none⌝ ∗ owes (thr d L) O W')

/-- A slot that lists a block may be taken for free. -/
theorem Listed_IFree (b : Fin 2) (n : Fin 6400) : Listed d L fi iq b n ⊢ IFree d L fi iq b := by
  unfold Listed IFree
  iintro ⟨⟨%f, -, H⟩, Hs, Hi⟩
  isplitl [H]; · iexists f; iexact H
  isplitl [Hs] <;> iassumption

variable [FloatOps F]

/-- A piece of the tile's program runs and ends in `Q`. -/
abbrev WP (p : Prog (TpuEff nD τ sig (Elt F) Λ₀ (.scVector (cV L) (jV L))) PUnit) (Q : PUnit → sProp 𝕄) : sProp 𝕄 :=
  wp frame (wpE (defs₀ (F := F)) 𝒱₀ (thr d L) none) Set.univ p Q

variable {d L fi ft iq tq O W}

/-- A wait on a transfer in flight: its delivery, the semaphore back at zero. -/
theorem wait_step (hO : ∀ g, O g none = 0) {sem : DmaSem sig} {sp sp' : Space} {s s' : Shape} {e e' : EltTy} {srcw : Memref sig .scVector sp' s' e'} {dstw : Memref sig .scVector sp s e}
    {hsrc : srcw.view.WordExact} {hdst : dstw.view.WordExact} {N : ℕ} (hN : dstw.view.dmaCredit = N) {D : sProp 𝕄} {Q : PUnit → sProp 𝕄} :
    iprop(Transfers.Flight countersEmb (thr d L) (.dma sem) (default : HIx 1) N D ∗ Owe (F := F) d L O W)
      ⊢ iprop((iprop(D ∗ semVal (thr d L, SemLoc.dma sem) 0 ∗ Owe (F := F) d L O W) -∗ Q ⟨⟩)
        -∗ WP d L (Prog.lift (.waitDma2 sem srcw dstw hsrc hdst)) Q) := by
  unfold Owe
  iintro ⟨Hfl, #Hlv, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) hN (k := .ret)) $$ [Hfl HO Hmw]
  · isplitl [Hfl]; · iexact Hfl
    isplitl [HO]; · iexact HO
    iapply (Transfers.MayWaits.elim (SemLoc.dma sem)) $$ Hmw
  iintro ⟨HD, Hs, HO⟩
  rw [wp_ret]
  imodintro
  iapply Hk
  isplitl [HD]; · iexact HD
  isplitl [Hs]; · iexact Hs
  isplitr; · iexact Hlv
  iexists _; isplitr
  swap; · iexact HO
  ipureintro; intro p hp
  rcases Finset.mem_insert.mp hp with hp | hp
  · exact .inr (hp ▸ rfl)
  · exact hW' p hp

/-- A fetch starts: a free index slot takes block `n`. -/
theorem fetch_step (b : Fin 2) (n : Fin 6400) {o3 : Fin 3 → ℕ} {o2 : Fin 2 → ℕ} {o1 : Fin 1 → ℕ} {i3 i2 i1 h3 h2 hsrc hdst hsem}
    (e3 : o3 = ![b.val, 0, 0]) (e2 : o2 = ![0, 128 * n.val]) (e1 : o1 = ![b.val]) {Q : PUnit → sProp 𝕄} :
    IFree d L fi iq b ⊢ iprop((Fetching d L fi iq b n -∗ Q ⟨⟩)
      -∗ WP d L (Prog.lift (.enqueueDma ((iV).slice (Rect.unit (s := S1x819200) o2 S1x128.size i2) h2)
        (.here (((sV).slice (Rect.unit (s := S2x1x128) o3 S1x1x128.size i3) h3).squeeze S1x128 squeezes_S1x1x128_S1x128))
        (.dma ((cc0_scoped1.slice (Rect.unit (s := S2) o1 S1.size i1)).squeeze S_ squeezes_S1_S_).sem) hsrc hdst hsem)) Q) := by
  subst e3 e2 e1
  unfold IFree Fetching
  iintro ⟨⟨%f, Hf⟩, Hs, Hi⟩ Hk
  ihave Hi' := (pointsTo_split_subset (q := iq b) (f := fi) (S := Finset.univ) (Finset.subset_univ (blkI n).view.set)).1 $$ Hi
  icases Hi' with ⟨Hi, Hrest⟩
  iapply (Transfers.wp_dmaLocal countersEmb 𝒱₀ (thr d L) none (src := blkI n) (via := .same) (dst := slotI b) (sm := .dma (semI b)) (k := .ret) (default : HIx 1)
    (slotI b).view.dmaCredit rfl (View.dmaCredit_pos _ (by decide)) (Finset.Subset.refl _)) $$ [Hf Hs Hi]
  · isplitl [Hi]; · iexact Hi
    isplitl [Hf]; · iexact Hf
    iexact Hs
  iintro Hfl
  rw [wp_ret]
  imodintro
  iapply Hk
  isplitl [Hfl]
  · iapply (Transfers.Flight_mono countersEmb (thr d L) ?_) $$ Hfl
    iintro ⟨Hd, Hi⟩
    isplitl [Hd]
    · iexists _; isplitr
      swap; · iexact Hd
      ipureintro; exact lists_of_fetch fi b n f
    iexact Hi
  iexact Hrest

/-- A fetch ends: the slot lists its block. -/
theorem fetched_step (hO : ∀ g, O g none = 0) (b : Fin 2) (n : Fin 6400) {o3 : Fin 3 → ℕ} {o2 : Fin 2 → ℕ} {o1 : Fin 1 → ℕ} {i3 i2 i1 h3 h2 hsrc hdst}
    (e3 : o3 = ![b.val, 0, 0]) (e1 : o1 = ![b.val]) {Q : PUnit → sProp 𝕄} :
    iprop(Fetching d L fi iq b n ∗ Owe (F := F) d L O W) ⊢ iprop((iprop(Listed d L fi iq b n ∗ Owe (F := F) d L O W) -∗ Q ⟨⟩)
      -∗ WP d L (Prog.lift (.waitDma2 ((cc0_scoped1.slice (Rect.unit (s := S2) o1 S1.size i1)).squeeze S_ squeezes_S1_S_).sem
        ((iV).slice (Rect.unit (s := S1x819200) o2 S1x128.size i2) h2)
        (((sV).slice (Rect.unit (s := S2x1x128) o3 S1x1x128.size i3) h3).squeeze S1x128 squeezes_S1x1x128_S1x128) hsrc hdst)) Q) := by
  subst e3 e1
  unfold Fetching Listed
  iintro ⟨⟨Hfl, Hrest⟩, HO⟩ Hk
  iapply (wait_step hO (N := (slotI b).view.dmaCredit) rfl) $$ [Hfl HO]
  · isplitl [Hfl] <;> iassumption
  iintro ⟨⟨Hf, Hi⟩, Hs, HO⟩
  iapply Hk
  isplitr [HO]
  · isplitl [Hf]; · iexact Hf
    isplitl [Hs]; · iexact Hs
    iapply (pointsTo_split_subset (q := iq b) (f := fi) (S := Finset.univ) (Finset.subset_univ (blkI n).view.set)).2
    isplitl [Hi] <;> iassumption
  iexact HO

/-- A write-out starts: a row slot holding block `n` goes to the output's block `n`. -/
theorem write_step (b : Fin 2) (n : Fin 6400) {o3 : Fin 3 → ℕ} {o2 : Fin 2 → ℕ} {o1 : Fin 1 → ℕ} {i3 i2 i1 h3 h2 hsrc hdst hsem}
    (e3 : o3 = ![b.val, 0, 0]) (e2 : o2 = ![128 * n.val, 0]) (e1 : o1 = ![b.val]) (fo : S819200x128.Idx → Elt F .f32) {Q : PUnit → sProp 𝕄} :
    iprop(Held d L fi ft b n ∗ ptsO d L n fo) ⊢ iprop((Writing d L fi ft b n -∗ Q ⟨⟩)
      -∗ WP d L (Prog.lift (.enqueueDma (((rV).slice (Rect.unit (s := S2x128x128) o3 S1x128x128.size i3) h3).squeeze S128x128 squeezes_S1x128x128_S128x128)
        (.here ((oV).slice (Rect.unit (s := S819200x128) o2 S128x128.size i2) h2))
        (.dma ((cc0_scoped3.slice (Rect.unit (s := S2) o1 S1.size i1)).squeeze S_ squeezes_S1_S_).sem) hsrc hdst hsem)) Q) := by
  subst e3 e2 e1
  unfold Held Writing
  iintro ⟨⟨⟨%f, %hf, Hf⟩, Hs⟩, Ho⟩ Hk
  iapply (Transfers.wp_dmaLocal countersEmb 𝒱₀ (thr d L) none (src := slotR b) (via := .same) (dst := blkO n) (sm := .dma (semO b)) (k := .ret) (default : HIx 1)
    (blkO n).view.dmaCredit rfl (View.dmaCredit_pos _ (by decide)) (Finset.Subset.refl _)) $$ [Hf Hs Ho]
  · isplitl [Hf]; · iexact Hf
    isplitl [Ho]; · iexact Ho
    iexact Hs
  iintro Hfl
  rw [wp_ret]
  imodintro
  iapply Hk
  iapply (Transfers.Flight_mono countersEmb (thr d L) ?_) $$ Hfl
  iintro ⟨Hd, Hf⟩
  isplitl [Hd]
  · iapply (Entails.of_eq (pointsTo_congr (write_out fi ft b n f hf fo))) $$ Hd
  iexists f; iexact Hf

/-- A write-out ends: the block is in place and the row slot free. -/
theorem written_step (hO : ∀ g, O g none = 0) (b : Fin 2) (n : Fin 6400) {o3 : Fin 3 → ℕ} {o2 : Fin 2 → ℕ} {o1 : Fin 1 → ℕ} {i3 i2 i1 h3 h2 hsrc hdst}
    (e2 : o2 = ![128 * n.val, 0]) (e1 : o1 = ![b.val]) {Q : PUnit → sProp 𝕄} :
    iprop(Writing d L fi ft b n ∗ Owe (F := F) d L O W) ⊢ iprop((iprop(RFree (F := F) d L b ∗ ptsO d L n (gval fi ft) ∗ Owe (F := F) d L O W) -∗ Q ⟨⟩)
      -∗ WP d L (Prog.lift (.waitDma2 ((cc0_scoped3.slice (Rect.unit (s := S2) o1 S1.size i1)).squeeze S_ squeezes_S1_S_).sem
        (((rV).slice (Rect.unit (s := S2x128x128) o3 S1x128x128.size i3) h3).squeeze S128x128 squeezes_S1x128x128_S128x128)
        ((oV).slice (Rect.unit (s := S819200x128) o2 S128x128.size i2) h2) hsrc hdst)) Q) := by
  subst e2 e1
  unfold Writing RFree
  iintro ⟨Hfl, HO⟩ Hk
  iapply (wait_step hO (N := (blkO n).view.dmaCredit) rfl) $$ [Hfl HO]
  · isplitl [Hfl] <;> iassumption
  iintro ⟨⟨Ho, Hf⟩, Hs, HO⟩
  iapply Hk
  isplitl [Hf Hs]
  · isplitl [Hf] <;> iassumption
  isplitl [Ho] <;> iassumption

/-- The rows of a gather pay together what one wait for the whole block takes. -/
theorem gather_credit : ∀ (b : Fin 2) (h : S100000x128.Gathers 0 S128x128),
    ∑ j, ((slotR b).slice (S128x128.rowRect h.axis' j) (S128x128.stride_rowRect h.axis' j)).view.dmaCredit = (slotR b).view.dmaCredit := by
  decide +kernel

/-- The gather, issued and waited for: the rows that index slot `b` lists, in row slot `b'`. -/
theorem gather_step (hO : ∀ g, O g none = 0) (hfi : ∀ x, (fi x : BitVec 32).toNat < 100000) (b b' : Fin 2) (hbb : b = b') (n : Fin 6400)
    {o3 o3' : Fin 3 → ℕ} {i3 i3' h3 h3' h3'' hl ha h1 h2 h4 h5 h6 h7 h10 h8 h9}
    (e3 : o3 = ![b.val, 0, 0]) (e3' : o3' = ![b'.val, 0, 0]) {Q : PUnit → sProp 𝕄} :
    iprop(Listed d L fi iq b n ∗ RFree (F := F) d L b' ∗ Table d L ft tq ∗ Owe (F := F) d L O W)
      ⊢ iprop((iprop(Listed d L fi iq b n ∗ Held d L fi ft b' n ∗ Table d L ft tq ∗ Owe (F := F) d L O W) -∗ Q ⟨⟩)
      -∗ WP d L (SparseCore.enqueueIndirectGather h1
          ((tV).slice (Rect.unit (s := S100000x128) ![0, 0] S100000x128.size inb_S100000x128_S100000x128_0_0) ha)
          (((rV).slice (Rect.unit (s := S2x128x128) o3' S1x128x128.size i3') h3').squeeze S128x128 squeezes_S1x128x128_S128x128)
          gathers_S100000x128_S128x128
          (((((sV).slice (Rect.unit (s := S2x1x128) o3 S1x1x128.size i3) h3).squeeze S1x128 squeezes_S1x1x128_S1x128).slice
            (Rect.unit (s := S1x128) ![0, 0] S1x128.size inb_S1x128_S1x128_0_0) hl).squeeze S128 squeezes_S1x128_S128)
          h2 cc0_scoped4.sem h4 h5 h6 h7)
        (fun _ => WP d L (SparseCore.waitIndirectGather cc0_scoped4.sem
          ((tV).slice (Rect.unit (s := S100000x128) ![0, 0] S100000x128.size inb_S100000x128_S100000x128_0_0) h10)
          (((rV).slice (Rect.unit (s := S2x128x128) o3' S1x128x128.size i3') h3'').squeeze S128x128 squeezes_S1x128x128_S128x128) h8 h9) Q)) := by
  subst hbb e3 e3'
  unfold Listed RFree Held Table
  iintro ⟨⟨⟨%fo, %hfo, Hl⟩, HsI, Hi⟩, ⟨⟨%fr, Hr⟩, HsO⟩, ⟨Ht, HsG⟩, HO⟩ Hk
  ihave Hl' := (pointsTo_split_subset (q := fullShare) (f := fo) (listI_set b)).1 $$ Hl
  icases Hl' with ⟨Hl, Hlr⟩
  ihave Ht' := (pointsTo_split_subset (q := tq) (f := ft) (S := Finset.univ) (Finset.subset_univ (tAll).view.set)).1 $$ Ht
  icases Ht' with ⟨Ht, Htr⟩
  rw [show ∀ (p : Prog (TpuEff nD τ sig (Elt F) Λ₀ (.scVector (cV L) (jV L))) PUnit) (R : PUnit → sProp 𝕄), WP d L p R = WP d L (p >>= .ret) R from
    fun p R => congrArg (fun p => WP d L p R) (show p = p >>= pure from (bind_pure p).symm)]
  iapply (SparseCore.wp_indirectGatherLocal countersEmb 𝒱₀ (thr d L) none (hg := gathers_S100000x128_S128x128) (dst := slotR b) (src := tAll) (offs := listI b) (sem := semG)
      (k := .ret) (default : HIx 1)
      (slotR b).view.dmaCredit (gather_credit b _) (by decide) (lists_inb fi hfi b n fo hfo)) $$ [Ht Hr Hl HsG]
  · isplitl [Ht]; · iexact Ht
    isplitl [Hr]; · iexact Hr
    isplitl [Hl]; · iexact Hl
    iexact HsG
  iintro Hfl
  rw [wp_ret]
  imodintro
  iapply (wait_step hO (N := (slotR b).view.dmaCredit) rfl) $$ [Hfl HO]
  · isplitl [Hfl] <;> iassumption
  iintro ⟨⟨Hr, Ht, Hl⟩, HsG, HO⟩
  iapply Hk
  isplitl [Hl Hlr HsI Hi]
  · isplitl [Hl Hlr]
    · iexists fo; isplitr
      · ipureintro; exact hfo
      iapply (pointsTo_split_subset (q := fullShare) (f := fo) (listI_set b)).2
      isplitl [Hl] <;> iassumption
    isplitl [HsI] <;> iassumption
  isplitl [Hr HsO]
  · isplitl [Hr]
    · iexists _; isplitr
      swap; · iexact Hr
      ipureintro; exact holds_of_gather fi ft hfi b n fo hfo fr _
    iexact HsO
  isplitr [HO]
  · isplitr [HsG]
    · iapply (pointsTo_split_subset (q := tq) (f := ft) (S := Finset.univ) (Finset.subset_univ (tAll).view.set)).2
      isplitl [Ht] <;> iassumption
    iexact HsG
  iexact HO

end Tile

end Cert.Proof.Steps

end
-- ==== Proof.Body.lean ====
/-
  The tile's task: the pipeline's loop by one invariant, and the whole body. Before trip `t` the fetch of block `t` is
  under way, the other index slot is free, the write-out of block `t - 1` is under way, its row slot's other is free, and
  the blocks before it hold the gathered rows.
-/
module

public import proofs.«01_k».proof.Proof.Steps

@[expose] public section

noncomputable section

namespace Cert.Proof.Body

open Cert.KernelIdeal Cert.KernelIdeal.Gen
open Cert.Proof.Words Cert.Proof.Views Cert.Proof.Steps

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Block `t` of worker `L`'s two hundred, among all. -/
def bn (L : grid0.Coords) (t : ℕ) : Fin 6400 := ⟨base L + min t 199, by have := base_le L; omega⟩

/-- Block `t` of a tile is block `base + t` of the whole. -/
theorem bn_val (L : grid0.Coords) {t : ℕ} (h : t < 200) : (bn L t).val = base L + t := by
  show base L + min t 199 = base L + t; omega

/-- Blocks two apart use the same slot. -/
theorem par_add_two (t : ℕ) : par (t + 2) = par t := Fin.ext (by show (t + 2) % 2 = t % 2; omega)
/-- The block before and the block after use the same slot. -/
theorem par_pred {t : ℕ} (h : t ≠ 0) : (t - 1) % 2 = (par (t + 1)).val := by show (t - 1) % 2 = (t + 1) % 2; omega

section Tile

variable (d : Dev nD) (L : grid0.Coords)
variable (fi : S1x819200.Idx → Elt F .i32) (ft : S100000x128.Idx → Elt F .f32) (fo : S819200x128.Idx → Elt F .f32)
variable (iq : Fin 2 → PosShare TreeShare) (tq : PosShare TreeShare)
variable (O : CellTallies nD τ sig (HIx 1)) (W : Waits sig (HIx 1))

/-- The first `t` blocks, gathered. -/
def Done (t : ℕ) : sProp 𝕄 := bigSep (Finset.range t) fun s => ptsO d L (bn L s) (gval fi ft)
/-- The blocks from `t` on, as the launch found them. -/
def Todo (t : ℕ) : sProp 𝕄 := bigSep (Finset.Ico t 200) fun s => ptsO d L (bn L s) fo
/-- The index slot of block `t`. -/
def Incoming (t : ℕ) : sProp 𝕄 := if t < 200 then Fetching d L fi iq (par t) (bn L t) else IFree d L fi iq (par t)
/-- The row slot of block `t - 1`. -/
def Outgoing (t : ℕ) : sProp 𝕄 := if t = 0 then RFree d L (par (t + 1)) else Writing d L fi ft (par (t + 1)) (bn L (t - 1))

/-- What the tile holds before trip `t`, at the words the loop carries. -/
def Inv (t : ℕ) (a : BitVec 32 × BitVec 32 × BitVec 32 × BitVec 32 × BitVec 32) : sProp 𝕄 :=
  iprop(⌜a = carried t⌝ ∗ Incoming d L fi iq t ∗ IFree d L fi iq (par (t + 1)) ∗ RFree (F := F) d L (par t) ∗ Outgoing d L fi ft t
    ∗ Table d L ft tq ∗ Done d L fi ft (t - 1) ∗ Todo d L fo t ∗ Owe (F := F) d L O W)

/-- One more block done: it holds the gathered rows, and so do those before it. -/
theorem Done_succ (t : ℕ) : Done d L fi ft (t + 1) = iprop(ptsO d L (bn L t) (gval fi ft) ∗ Done d L fi ft t) := by
  unfold Done
  rw [Finset.range_add_one, SparseCore.bigSep_insert' Finset.notMem_range_self]

/-- The blocks still to do are the next one and those after it. -/
theorem Todo_lt {t : ℕ} (h : t < 200) : Todo d L fo t = iprop(ptsO d L (bn L t) fo ∗ Todo d L fo (t + 1)) := by
  unfold Todo
  rw [show Finset.Ico t 200 = insert t (Finset.Ico (t + 1) 200) by ext x; simp only [Finset.mem_Ico, Finset.mem_insert]; omega,
    SparseCore.bigSep_insert' (by simp)]

variable [FloatOps F]

/-- A guarded step before the rest of a program is the step alone, then the rest. -/
theorem wp_guard {α : Type} {C : Prop} [Decidable C] (e : C → Prog (TpuEff nD τ sig (Elt F) Λ₀ (.scVector (cV L) (jV L))) PUnit)
    (J : Prog (TpuEff nD τ sig (Elt F) Λ₀ (.scVector (cV L) (jV L))) α) (Q : α → sProp 𝕄) :
    wp frame (wpE (defs₀ (F := F)) 𝒱₀ (thr d L) none) Set.univ (if h : C then e h >>= fun _ => J else J) Q
      = WP d L (if h : C then e h else pure ⟨⟩) (fun _ => wp frame (wpE (defs₀ (F := F)) 𝒱₀ (thr d L) none) Set.univ J Q) := by
  split
  · rw [wp_bind]
  · exact (fupd_wp_eq _ _ _ _ _).symm

/-- Two steps before the rest of a program. -/
theorem wp_two {α : Type} (e w : Prog (TpuEff nD τ sig (Elt F) Λ₀ (.scVector (cV L) (jV L))) PUnit)
    (J : Prog (TpuEff nD τ sig (Elt F) Λ₀ (.scVector (cV L) (jV L))) α) (Q : α → sProp 𝕄) :
    wp frame (wpE (defs₀ (F := F)) 𝒱₀ (thr d L) none) Set.univ (e >>= fun _ => w >>= fun _ => J) Q
      = WP d L e (fun _ => WP d L w (fun _ => wp frame (wpE (defs₀ (F := F)) 𝒱₀ (thr d L) none) Set.univ J Q)) := by
  rw [wp_bind]
  exact congrArg (fun R => WP d L e R) (funext fun _ => by rw [wp_bind])

/-- A guarded step, from its two ways: the step under its condition, or nothing. -/
theorem guard_step {C : Prop} [Decidable C] {e : C → Prog (TpuEff nD τ sig (Elt F) Λ₀ (.scVector (cV L) (jV L))) PUnit} {A B : sProp 𝕄} {Q : PUnit → sProp 𝕄}
    (hp : ∀ (h : C) (R : PUnit → sProp 𝕄), A ⊢ iprop((B -∗ R ⟨⟩) -∗ WP d L (e h) R)) (hn : ¬C → A ⊢ B) :
    A ⊢ iprop((B -∗ Q ⟨⟩) -∗ WP d L (if h : C then e h else pure ⟨⟩) Q) := by
  by_cases h : C
  · rw [dif_pos h]; exact hp h Q
  · rw [dif_neg h]
    iintro HA Hk
    unfold WP
    rw [wp_pure]
    imodintro
    iapply Hk
    iapply (hn h) $$ HA

/-- An assumed proposition that holds. -/
theorem assume_step {C : Prop} {dec : Decidable C} (h : C) {Q : PLift C → sProp 𝕄} :
    Q ⟨h⟩ ⊢ wp frame (wpE (defs₀ (F := F)) 𝒱₀ (thr d L) none) Set.univ (Prog.lift (TpuEff.assume C dec)) Q := by
  rw [show Prog.lift (TpuEff.assume C dec) = .op (TpuEff.assume C dec) .ret from rfl, wp_assume_of 𝒱₀ (thr d L) none Set.univ h, wp_ret]
  exact Idealize.SL.BI.fupd_intro

set_option maxHeartbeats 4000000 in
/-- One trip keeps the invariant. -/
theorem trip (hO : ∀ g, O g none = 0) (hfi : ∀ x, (fi x : BitVec 32).toNat < 100000) (t : Fin k0_t1_loop.trips)
    (a : BitVec 32 × BitVec 32 × BitVec 32 × BitVec 32 × BitVec 32) :
    Inv d L fi ft fo iq tq O W t.val a
      ⊢ wp frame (wpE (defs₀ (F := F)) 𝒱₀ (thr d L) none) Set.univ
          (k0_t1_body L tV (Memref.isWhole_whole _) iV (Memref.isWhole_whole _) oV (Memref.isWhole_whole _)
            sV (Memref.isWhole_whole _) cc0_scoped1 rV (Memref.isWhole_whole _) cc0_scoped3 cc0_scoped4 (w4 L) t a)
          (Inv d L fi ft fo iq tq O W (t.val + 1)) := by
  have ht : t.val < 200 := trips_eq ▸ t.isLt
  unfold Inv
  iintro ⟨%ha, Hin, Hi, Hr, Hout, Ht, Hdone, Htodo, HO⟩
  subst ha
  rw [carried_lt ht]
  unfold k0_t1_body
  rw [wp_bind, k0_part1_eq_skeleton]
  unfold k0_part1_skel
  rw [wp_bind]
  iapply (assume_step d L (chk3 ht))
  rw [wp_bind]
  iapply (assume_step d L (chk2 ht))
  rw [wp_bind]
  iapply (assume_step d L (chk1 L t))
  dsimp only
  rw [wp_guard]
  -- the fetch of block `t + 1`
  iapply (guard_step d L (A := IFree d L fi iq (par (t.val + 1))) (B := Incoming d L fi iq (t.val + 1)) (fun h R => ?_) (fun h => ?_)) $$ [Hi]
  · have h' : t.val < 199 := by
      by_contra hn
      rw [cond1_eq, if_neg hn] at h; exact absurd h (by decide)
    unfold Incoming
    rw [if_pos (by omega)]
    refine fetch_step (F := F) (d := d) (L := L) (fi := fi) (iq := iq) (par (t.val + 1)) (bn L (t.val + 1)) ?_ ?_ ?_
    · exact off4_eq _ (by omega)
    · exact (off5_eq L t h').trans (by rw [bn_val L (by omega)])
    · exact sem_off_eq _ (by omega)
  · have h' : ¬ t.val < 199 := fun hn => h (by rw [cond1_eq, if_pos hn])
    unfold Incoming
    rw [if_neg (by omega)]
  · iexact Hi
  iintro Hnext
  rw [wp_pure]
  imodintro
  dsimp only
  rw [wp_bind, k0_part2_eq_skeleton]
  unfold k0_part2_skel
  dsimp only
  rw [wp_guard]
  -- the wait for the fetch of block `t`
  iapply (guard_step d L (A := iprop(Incoming d L fi iq t.val ∗ Owe (F := F) d L O W))
    (B := iprop(Listed d L fi iq (par t.val) (bn L t.val) ∗ Owe (F := F) d L O W)) (fun h R => ?_) (fun h => ?_)) $$ [Hin HO]
  · unfold Incoming
    rw [if_pos ht]
    refine fetched_step (F := F) (d := d) (L := L) (fi := fi) (iq := iq) (O := O) (W := W) hO (par t.val) (bn L t.val) ?_ ?_
    · exact off4_eq t.val (by omega)
    · exact sem_off_eq t.val (by omega)
  · exact absurd (cond2_eq L t) h
  · isplitl [Hin]; · iexact Hin
    iexact HO
  iintro ⟨Hl, HO⟩
  rw [ite_self]
  -- the gather of block `t`
  rw [wp_two]
  iapply (gather_step (F := F) (d := d) (L := L) (fi := fi) (ft := ft) (iq := iq) (tq := tq) (O := O) (W := W) hO hfi (par t.val) (par t.val) rfl (bn L t.val)
    ?_ ?_) $$ [Hl Hr Ht HO]
  · exact off4_eq t.val (by omega)
  · exact off4_eq t.val (by omega)
  · isplitl [Hl]; · iexact Hl
    isplitl [Hr]; · iexact Hr
    isplitl [Ht]; · iexact Ht
    iexact HO
  iintro ⟨Hl, Hr, Ht, HO⟩
  ihave Hi := (Listed_IFree d L fi iq (par t.val) (bn L t.val)) $$ Hl
  rw [ite_self, wp_pure]
  imodintro
  rw [wp_guard]
  -- block `t` starts on its way out
  ihave Htodo' := (Entails.of_eq (Todo_lt d L fo ht)) $$ Htodo
  icases Htodo' with ⟨Hblk, Htodo⟩
  iapply (guard_step d L (A := iprop(Held d L fi ft (par t.val) (bn L t.val) ∗ ptsO d L (bn L t.val) fo))
    (B := Writing d L fi ft (par t.val) (bn L t.val)) (fun h R => ?_) (fun h => ?_)) $$ [Hr Hblk]
  · refine write_step (F := F) (d := d) (L := L) (fi := fi) (ft := ft) (par t.val) (bn L t.val) ?_ ?_ ?_ fo
    · exact off4_eq t.val (by omega)
    · exact (off13_eq L t).trans (by rw [bn_val L ht])
    · exact sem_off_eq t.val (by omega)
  · exact absurd (cond5_eq L t) h
  · isplitl [Hr]; · iexact Hr
    iexact Hblk
  iintro Hw
  rw [ite_self, wp_guard]
  -- the wait for block `t - 1`
  iapply (guard_step d L (A := iprop(Outgoing d L fi ft t.val ∗ Done d L fi ft (t.val - 1) ∗ Owe (F := F) d L O W))
    (B := iprop(RFree (F := F) d L (par (t.val + 1)) ∗ Done d L fi ft t.val ∗ Owe (F := F) d L O W)) (fun h R => ?_) (fun h => ?_)) $$ [Hout Hdone HO]
  · have h' : t.val ≠ 0 := fun hn => by
      rw [cond7_eq, if_pos hn] at h; exact absurd h (by decide)
    unfold Outgoing
    rw [if_neg h']
    iintro ⟨Hw, Hdone, HO⟩ Hk
    iapply (written_step (F := F) (d := d) (L := L) (fi := fi) (ft := ft) (O := O) (W := W) hO (par (t.val + 1)) (bn L (t.val - 1)) ?_ ?_) $$ [Hw HO]
    · exact (off16_eq L t h').trans (by rw [bn_val L (by omega)])
    · exact (sem_off_eq (t.val - 1) (by omega)).trans (by rw [par_pred h'])
    · isplitl [Hw]; · iexact Hw
      iexact HO
    iintro ⟨Hr, Hb, HO⟩
    iapply Hk
    isplitl [Hr]; · iexact Hr
    isplitr [HO]
    · rw [show Done d L fi ft t.val = Done d L fi ft (t.val - 1 + 1) by rw [Nat.sub_add_cancel (by omega)], Done_succ]
      isplitl [Hb]; · iexact Hb
      iexact Hdone
    iexact HO
  · have h' : t.val = 0 := by
      by_contra hn
      exact h (by rw [cond7_eq, if_neg hn])
    unfold Outgoing
    rw [if_pos h', h']
  · isplitl [Hout]; · iexact Hout
    isplitl [Hdone]; · iexact Hdone
    iexact HO
  iintro ⟨Hr, Hdone, HO⟩
  rw [wp_pure]
  imodintro
  isplitr
  · ipureintro
    have hy := yielded_carried L t
    rw [carried_lt ht] at hy
    exact hy
  isplitl [Hnext]; · iexact Hnext
  rw [show t.val + 1 + 1 = t.val + 2 from rfl, par_add_two]
  isplitl [Hi]; · iexact Hi
  isplitl [Hr]; · iexact Hr
  isplitl [Hw]
  · unfold Outgoing
    rw [if_neg (Nat.succ_ne_zero _), show t.val + 1 + 1 = t.val + 2 from rfl, par_add_two, Nat.add_sub_cancel]
    iexact Hw
  isplitl [Ht]; · iexact Ht
  rw [Nat.add_sub_cancel]
  isplitl [Hdone]; · iexact Hdone
  isplitl [Htodo]; · iexact Htodo
  iexact HO

/-- What the tile holds before its first block: both slots of each ring free, its two hundred blocks as the launch found them. -/
def Before : sProp 𝕄 :=
  iprop(IFree d L fi iq 0 ∗ IFree d L fi iq 1 ∗ RFree (F := F) d L 0 ∗ RFree (F := F) d L 1 ∗ Table d L ft tq ∗ Todo d L fo 0 ∗ Owe (F := F) d L O W)
/-- After its last: the same, its blocks gathered. -/
def After : sProp 𝕄 :=
  iprop(IFree d L fi iq 0 ∗ IFree d L fi iq 1 ∗ RFree (F := F) d L 0 ∗ RFree (F := F) d L 1 ∗ Table d L ft tq ∗ Done d L fi ft 200 ∗ Owe (F := F) d L O W)

/-- Block 0 uses slot 0. -/
theorem par_zero : par 0 = 0 := rfl
/-- Block 1 uses slot 1. -/
theorem par_one : par 1 = 1 := rfl

set_option maxHeartbeats 4000000 in
/-- The kernel at one tile. -/
theorem tile (hO : ∀ g, O g none = 0) (hfi : ∀ x, (fi x : BitVec 32).toNat < 100000) :
    Before d L fi ft fo iq tq O W
      ⊢ WP d L (cc0_gather_kernel L tV (Memref.isWhole_whole _) iV (Memref.isWhole_whole _) oV (Memref.isWhole_whole _)
            sV (Memref.isWhole_whole _) cc0_scoped1 rV (Memref.isWhole_whole _) cc0_scoped3 cc0_scoped4)
          (fun _ => After d L fi ft iq tq O W) := by
  unfold Before
  iintro ⟨HI0, HI1, HR0, HR1, Ht, Htodo, HO⟩
  unfold WP
  rw [cc0_gather_kernel_eq_skeleton]
  unfold cc0_gather_kernel_skel
  rw [wp_bind, k0_part3_eq_skeleton]
  unfold k0_part3_skel
  dsimp only
  rw [wp_bind]
  iapply (fetch_step (F := F) (d := d) (L := L) (fi := fi) (iq := iq) 0 (bn L 0) ?_ ?_ ?_) $$ [HI0]
  · exact k0_off1_eq
  · have e : 25600 * (L 1).val + 409600 * (L 0).val = 128 * (bn L 0).val := by
      rw [bn_val L (by decide)]; unfold base; omega
    exact (k0_off2_eq L).trans (congrArg (fun v => ![0, v]) e)
  · exact sem_off_eq 0 (by decide)
  · iexact HI0
  iintro Hf
  rw [wp_pure]
  imodintro
  rw [wp_bind, k0_part4_eq_skeleton]
  unfold k0_part4_skel
  dsimp only
  iapply (Scf.wp_for_bind frame (wpE (defs₀ (F := F)) 𝒱₀ (thr d L) none) Set.univ _ _ _ k0_t1_ok _ _
    (Inv d L fi ft fo iq tq O W) (trip d L fi ft fo iq tq O W hO hfi)) $$ [Hf HI1 HR0 HR1 Ht Htodo HO]
  · unfold Inv
    isplitr; · ipureintro; rfl
    isplitl [Hf]
    · unfold Incoming; rw [if_pos (by decide), par_zero]; iexact Hf
    isplitl [HI1]; · iexact HI1
    isplitl [HR0]; · iexact HR0
    isplitl [HR1]
    · unfold Outgoing; rw [if_pos rfl]; iexact HR1
    isplitl [Ht]; · iexact Ht
    isplitr [Htodo HO]
    · unfold Done; rw [Nat.zero_sub, Finset.range_zero, bigSep_empty]; iempintro
    isplitl [Htodo]; · iexact Htodo
    iexact HO
  iintro %a HI
  rw [show Scf.trips k0_t1_loop.lb k0_t1_loop.ub k0_t1_loop.st = 200 from trips_eq]
  unfold Inv
  icases HI with ⟨%ha, Hin, HI1, HR0, Hout, Ht, Hdone, -, HO⟩
  subst ha
  rw [show carried 200 = (200#32, 200#32, 200#32, 199#32, 0#32) from rfl]
  dsimp only
  rw [wp_bind]
  iapply (assume_step d L (chk5 L))
  rw [wp_bind]
  iapply (assume_step d L chk4)
  rw [wp_pure]
  imodintro
  dsimp only
  rw [wp_bind]
  ihave Hout := (show Outgoing d L fi ft 200 ⊢ Writing d L fi ft (par 201) (bn L 199) from
    Entails.of_eq (by unfold Outgoing; rw [if_neg (by decide)])) $$ Hout
  iapply (written_step (F := F) (d := d) (L := L) (fi := fi) (ft := ft) (O := O) (W := W) hO (par 201) (bn L 199) ?_ ?_) $$ [Hout HO]
  · exact (off19_eq L).trans (by rw [bn_val L (by decide)])
  · exact sem_off_eq 199 (by decide)
  · isplitl [Hout]; · iexact Hout
    iexact HO
  iintro ⟨HR1, Hb, HO⟩
  rw [wp_pure]
  imodintro
  unfold After
  isplitl [Hin]
  · iapply (show Incoming d L fi iq 200 ⊢ IFree d L fi iq 0 from Entails.of_eq (by unfold Incoming; rw [if_neg (by decide)]; rfl)) $$ Hin
  isplitl [HI1]; · iexact HI1
  isplitl [HR0]; · iexact HR0
  isplitl [HR1]; · iexact HR1
  isplitl [Ht]; · iexact Ht
  isplitr [HO]
  · iapply (Entails.of_eq (Done_succ d L fi ft 199).symm)
    isplitl [Hb]; · iexact Hb
    iexact Hdone
  iexact HO

end Tile

end Cert.Proof.Body

end
-- ==== Proof.Tasks.lean ====
/-
  One tile's task from what the launch hands it: its scratch buffers split into the pipeline's slots, its five DMA
  semaphores named, its shares of the ids and the table and its two hundred output blocks; back come the same, the blocks
  gathered. Then the obligation the launch theorem asks of a vector-subcore call.
-/
module

public import proofs.«01_k».proof.Proof.Body

@[expose] public section

noncomputable section

namespace Cert.Proof.Tasks

open Cert.KernelIdeal Cert.KernelIdeal.Gen
open Cert.Proof.Words Cert.Proof.Views Cert.Proof.Steps Cert.Proof.Body

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The scratch buffers are their slots -/

/-- Index slot `b` is plane `b` of the index scratch. -/
theorem slotI_set (b : Fin 2) : (slotI b).view.set = (Rect.unit (s := S2x1x128) ![b.val, 0, 0] S1x1x128.size (slotI_inb b)).set := by
  show (((View.whole (cc0_scoped0 : Ref sig .scVector)).slice (Rect.unit (s := S2x1x128) ![b.val, 0, 0] S1x1x128.size (slotI_inb b))).reshape S1x128
    squeezes_S1x1x128_S1x128.numel_eq).set = _
  rw [View.set_reshape, View.set_slice]; exact Finset.map_refl
/-- Row slot `b` is plane `b` of the row scratch. -/
theorem slotR_set (b : Fin 2) : (slotR b).view.set = (Rect.unit (s := S2x128x128) ![b.val, 0, 0] S1x128x128.size (slotR_inb b)).set := by
  show (((View.whole (cc0_scoped2 : Ref sig .scVector)).slice (Rect.unit (s := S2x128x128) ![b.val, 0, 0] S1x128x128.size (slotR_inb b))).reshape S128x128
    squeezes_S1x128x128_S128x128.numel_eq).set = _
  rw [View.set_reshape, View.set_slice]; exact Finset.map_refl

/-- The two index slots are apart. -/
theorem slotsI_disjoint : ∀ b ∈ (Finset.univ : Finset (Fin 2)), ∀ b' ∈ (Finset.univ : Finset (Fin 2)), b ≠ b' → Disjoint (slotI b).view.set (slotI b').view.set := by
  intro b _ b' _ h
  rw [slotI_set, slotI_set]
  refine Rect.unit_disjoint 0 ?_
  show b.val + 1 ≤ b'.val ∨ b'.val + 1 ≤ b.val
  have := fun e => h (Fin.ext e); omega
/-- The two row slots are apart. -/
theorem slotsR_disjoint : ∀ b ∈ (Finset.univ : Finset (Fin 2)), ∀ b' ∈ (Finset.univ : Finset (Fin 2)), b ≠ b' → Disjoint (slotR b).view.set (slotR b').view.set := by
  intro b _ b' _ h
  rw [slotR_set, slotR_set]
  refine Rect.unit_disjoint 0 ?_
  show b.val + 1 ≤ b'.val ∨ b'.val + 1 ≤ b.val
  have := fun e => h (Fin.ext e); omega

/-- The two index slots are the whole index scratch. -/
theorem slotsI_cover : (Finset.univ : Finset (Fin 2)).biUnion (fun b => ((slotI b).view.set : Finset S2x1x128.Idx)) = (Finset.univ : Finset S2x1x128.Idx) := by
  refine Finset.eq_univ_iff_forall.mpr fun x => Finset.mem_biUnion.mpr ⟨x 0, Finset.mem_univ _, ?_⟩
  refine (Finset.ext_iff.mp (slotI_set (x 0)) x).mpr (Rect.mem_set_unit.mpr fun a => ?_)
  match a with
  | 0 => exact ⟨le_refl _, Nat.lt_succ_self _⟩
  | 1 => exact ⟨Nat.zero_le _, (Nat.zero_add 1).symm ▸ (x 1).isLt⟩
  | 2 => exact ⟨Nat.zero_le _, (Nat.zero_add 128).symm ▸ (x 2).isLt⟩
/-- The two row slots are the whole row scratch. -/
theorem slotsR_cover : (Finset.univ : Finset (Fin 2)).biUnion (fun b => ((slotR b).view.set : Finset S2x128x128.Idx)) = (Finset.univ : Finset S2x128x128.Idx) := by
  refine Finset.eq_univ_iff_forall.mpr fun x => Finset.mem_biUnion.mpr ⟨x 0, Finset.mem_univ _, ?_⟩
  refine (Finset.ext_iff.mp (slotR_set (x 0)) x).mpr (Rect.mem_set_unit.mpr fun a => ?_)
  match a with
  | 0 => exact ⟨le_refl _, Nat.lt_succ_self _⟩
  | 1 => exact ⟨Nat.zero_le _, (Nat.zero_add 128).symm ▸ (x 1).isLt⟩
  | 2 => exact ⟨Nat.zero_le _, (Nat.zero_add 128).symm ▸ (x 2).isLt⟩

section Tile

variable (d : Dev nD) (L : grid0.Coords)

/-- The index scratch, whole, is its two slots. -/
theorem bufI_split : (iprop(∃ f, (thr d L).loc cc0_scoped0 ↦{fullShare} f) : sProp 𝕄) ⊢ iprop((∃ f, ptsI d L 0 f) ∗ ∃ f, ptsI d L 1 f) := by
  iintro ⟨%f, H⟩
  ihave H' := (show ((thr d L).loc cc0_scoped0 ↦{fullShare} f : sProp 𝕄) ⊢ iprop(ptsI d L 0 f ∗ ptsI d L 1 f) from Entails.of_eq (by
    refine ((congrArg (fun s => (thr d L).loc cc0_scoped0 ↦[s]{fullShare} f) slotsI_cover.symm).trans
      (pointsTo_biUnion (ℓ := (thr d L).loc cc0_scoped0) Finset.univ (fun b => (slotI b).view.set) slotsI_disjoint)).trans ?_
    exact BI.bigSep_fin_two (fun b => ptsI d L b f))) $$ H
  icases H' with ⟨H0, H1⟩
  isplitl [H0]
  · iexists f; iexact H0
  · iexists f; iexact H1
/-- The two index slots make the index scratch again. -/
theorem bufI_join : (iprop((∃ f, ptsI d L 0 f) ∗ ∃ f, ptsI d L 1 f) : sProp 𝕄) ⊢ iprop(∃ f, (thr d L).loc cc0_scoped0 ↦{fullShare} f) := by
  iintro ⟨⟨%f0, H0⟩, ⟨%f1, H1⟩⟩
  ihave H := (show iprop(ptsI d L 0 f0 ∗ ptsI d L 1 f1) ⊢ (bigSep (Finset.univ : Finset (Fin 2)) fun b => ptsI d L b (if b = 0 then f0 else f1)) from
    Entails.of_eq (BI.bigSep_fin_two (fun b : Fin 2 => ptsI d L b (if b = 0 then f0 else f1))).symm) $$ [H0 H1]
  · isplitl [H0] <;> iassumption
  ihave H' := (pointsTo_biUnion_join (ℓ := (thr d L).loc cc0_scoped0) (q := fullShare) (Val := Elt F) Finset.univ (fun b => (slotI b).view.set)
    (fun b => if b = 0 then f0 else f1) f0 slotsI_disjoint) $$ H
  icases H' with ⟨%g, -, Hg⟩
  ihave Hg := (Entails.of_eq (congrArg (fun s => ((thr d L).loc cc0_scoped0 ↦[s]{fullShare} g : sProp 𝕄)) slotsI_cover)) $$ Hg
  iexists g; iexact Hg

/-- The row scratch, whole, is its two slots. -/
theorem bufR_split : (iprop(∃ f, (thr d L).loc cc0_scoped2 ↦{fullShare} f) : sProp 𝕄) ⊢ iprop((∃ f, ptsR d L 0 f) ∗ ∃ f, ptsR d L 1 f) := by
  iintro ⟨%f, H⟩
  ihave H' := (show ((thr d L).loc cc0_scoped2 ↦{fullShare} f : sProp 𝕄) ⊢ iprop(ptsR d L 0 f ∗ ptsR d L 1 f) from Entails.of_eq (by
    refine ((congrArg (fun s => (thr d L).loc cc0_scoped2 ↦[s]{fullShare} f) slotsR_cover.symm).trans
      (pointsTo_biUnion (ℓ := (thr d L).loc cc0_scoped2) Finset.univ (fun b => (slotR b).view.set) slotsR_disjoint)).trans ?_
    exact BI.bigSep_fin_two (fun b => ptsR d L b f))) $$ H
  icases H' with ⟨H0, H1⟩
  isplitl [H0]
  · iexists f; iexact H0
  · iexists f; iexact H1
/-- The two row slots make the row scratch again. -/
theorem bufR_join : (iprop((∃ f, ptsR d L 0 f) ∗ ∃ f, ptsR d L 1 f) : sProp 𝕄) ⊢ iprop(∃ f, (thr d L).loc cc0_scoped2 ↦{fullShare} f) := by
  iintro ⟨⟨%f0, H0⟩, ⟨%f1, H1⟩⟩
  ihave H := (show iprop(ptsR d L 0 f0 ∗ ptsR d L 1 f1) ⊢ (bigSep (Finset.univ : Finset (Fin 2)) fun b => ptsR d L b (if b = 0 then f0 else f1)) from
    Entails.of_eq (BI.bigSep_fin_two (fun b : Fin 2 => ptsR d L b (if b = 0 then f0 else f1))).symm) $$ [H0 H1]
  · isplitl [H0] <;> iassumption
  ihave H' := (pointsTo_biUnion_join (ℓ := (thr d L).loc cc0_scoped2) (q := fullShare) (Val := Elt F) Finset.univ (fun b => (slotR b).view.set)
    (fun b => if b = 0 then f0 else f1) f0 slotsR_disjoint) $$ H
  icases H' with ⟨%g, -, Hg⟩
  ihave Hg := (Entails.of_eq (congrArg (fun s => ((thr d L).loc cc0_scoped2 ↦[s]{fullShare} g : sProp 𝕄)) slotsR_cover)) $$ Hg
  iexists g; iexact Hg

/-! ## The tile's own semaphores and buffers -/

/-- The tile's cell of a DMA semaphore. -/
abbrev cell (s : DmaSem sig) : GSem nD τ sig := (thr d L, SemLoc.dma s)
/-- The five the kernel uses. -/
def five : Finset (DmaSem sig) := {semI 0, semI 1, semO 0, semO 1, semG}

/-- A semaphore of the kernel's own is among the tile's cells. -/
theorem cell_own (s : DmaSem sig) (h : (SemLoc.dma s : SemLoc sig).isScoped .scVector = true) : cell d L s ∈ ownCells (thr d L) :=
  (mem_ownCells (g := cell d L s)).mpr ⟨rfl, h⟩
/-- Two semaphores have two cells. -/
theorem cell_ne {s s' : DmaSem sig} (h : s ≠ s') : cell d L s ≠ cell d L s' := fun e => h (SemLoc.dma.inj (Prod.mk.inj e).2)

/-- The five semaphores are among the tile's own: they are them and the rest. -/
theorem ownSems0_V : ∃ R : sProp 𝕄, (ownSems0 (thr d L) : sProp 𝕄)
    = iprop(semVal (cell d L (semI 0)) 0 ∗ semVal (cell d L (semI 1)) 0 ∗ semVal (cell d L (semO 0)) 0 ∗ semVal (cell d L (semO 1)) 0
        ∗ semVal (cell d L semG) 0 ∗ R) := by
  refine ⟨bigSep (((((ownCells (thr d L)).erase (cell d L (semI 0))).erase (cell d L (semI 1))).erase (cell d L (semO 0))).erase (cell d L (semO 1))
    |>.erase (cell d L semG)) fun g => semVal g 0, ?_⟩
  unfold SparseCore.Cfg.ownSems0
  have h01 : semI 1 ≠ semI 0 := by decide
  have h02 : semO 0 ≠ semI 0 := by decide
  have h12 : semO 0 ≠ semI 1 := by decide
  have h03 : semO 1 ≠ semI 0 := by decide
  have h13 : semO 1 ≠ semI 1 := by decide
  have h23 : semO 1 ≠ semO 0 := by decide
  have h04 : semG ≠ semI 0 := by decide
  have h14 : semG ≠ semI 1 := by decide
  have h24 : semG ≠ semO 0 := by decide
  have h34 : semG ≠ semO 1 := by decide
  rw [SparseCore.bigSep_erase' (cell_own d L (semI 0) (by decide)),
    SparseCore.bigSep_erase' (Finset.mem_erase.mpr ⟨cell_ne d L h01, cell_own d L (semI 1) (by decide)⟩),
    SparseCore.bigSep_erase' (Finset.mem_erase.mpr ⟨cell_ne d L h12, Finset.mem_erase.mpr ⟨cell_ne d L h02, cell_own d L (semO 0) (by decide)⟩⟩),
    SparseCore.bigSep_erase' (Finset.mem_erase.mpr ⟨cell_ne d L h23, Finset.mem_erase.mpr ⟨cell_ne d L h13, Finset.mem_erase.mpr ⟨cell_ne d L h03,
      cell_own d L (semO 1) (by decide)⟩⟩⟩),
    SparseCore.bigSep_erase' (Finset.mem_erase.mpr ⟨cell_ne d L h34, Finset.mem_erase.mpr ⟨cell_ne d L h24, Finset.mem_erase.mpr ⟨cell_ne d L h14,
      Finset.mem_erase.mpr ⟨cell_ne d L h04, cell_own d L semG (by decide)⟩⟩⟩⟩)]

/-- The two scratch buffers are among the tile's own: they are them and the rest. -/
theorem ownBufs_V : ∃ R : sProp 𝕄, (ownBufs (thr d L) : sProp 𝕄)
    = iprop((∃ f, (thr d L).loc cc0_scoped0 ↦{fullShare} f) ∗ (∃ f, (thr d L).loc cc0_scoped2 ↦{fullShare} f) ∗ R) := by
  refine ⟨bigSep (((ownRefs (τ := τ) (.scVector (cV L) (jV L))).erase ((Proc.scVector (cV L) (jV L)).devRef cc0_scoped0)).erase
      ((Proc.scVector (cV L) (jV L)).devRef cc0_scoped2)) fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The task -/

/-- A tile's share of an array that every tile reads. -/
def part (L : grid0.Coords) : PosShare TreeShare := pieceOf (pieceOf fullShare 2 (by decide) (L 0)) 16 (by decide) (L 1)
/-- Its two halves, one for each index slot's fetches. -/
def half (L : grid0.Coords) (b : Fin 2) : PosShare TreeShare := if b = 0 then (part L).left else (part L).right

variable (fi : S1x819200.Idx → Elt F .i32) (ft : S100000x128.Idx → Elt F .f32) (fo : S819200x128.Idx → Elt F .f32)

/-- What a tile is handed: its shares of the ids and the table, its blocks of the output. -/
def Go : sProp 𝕄 := iprop((ids d L fi (half L) 0 ∗ ids d L fi (half L) 1) ∗ tbl d L ft (part L) ∗ Todo d L fo 0)
/-- What it hands back: the same, its blocks gathered. -/
def Back : sProp 𝕄 := iprop((ids d L fi (half L) 0 ∗ ids d L fi (half L) 1) ∗ tbl d L ft (part L) ∗ Done d L fi ft 200)

variable [FloatOps F]

/-- The side conditions of the call's handshakes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The kernel at one tile, from what the launch hands it. -/
theorem tile_body (hF : (K (F := F)).Facts) (hfi : ∀ x, (fi x : BitVec 32).toNat < 100000)
    (O : CellTallies nD τ sig (HIx 1)) (W : Waits sig (HIx 1)) (hO : ∀ g, O g none = 0) :
    iprop(levAts (K (F := F)).L (K (F := F)).lev ∗ emp ∗ Go d L fi ft fo
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            sV (Memref.isWhole_whole _) cc0_scoped1 rV (Memref.isWhole_whole _) cc0_scoped3 cc0_scoped4)
          fun _ => iprop(Back d L fi ft
            ∗ scopedBufs (thr d L) ∗ scopedSems0 (thr d L)
            ∗ ∃ W', ⌜∀ p ∈ W', p ∈ W ∨ p.2 = none⌝ ∗ owes (thr d L) O W') := by
  obtain ⟨Rs, hRs⟩ := ownSems0_V (F := F) d L
  obtain ⟨Rb, hRb⟩ := ownBufs_V (F := F) d L
  rw [(K (F := F)).scopedBufs_V hF d (cV L) (jV L), SparseCore.Cfg.scopedSems0_V (Val := Elt F) d (cV L) (jV L), hRs, hRb]
  unfold Go
  iintro ⟨#Hlv, -, ⟨⟨Hi0, Hi1⟩, Ht, Hto⟩, ⟨HbI, HbR, HRb⟩, ⟨Hs0, Hs1, Hw0, Hw1, Hg, HRs⟩, HO⟩
  ihave HbI := (bufI_split (F := F) d L) $$ HbI
  icases HbI with ⟨HI0, HI1⟩
  ihave HbR := (bufR_split (F := F) d L) $$ HbR
  icases HbR with ⟨HR0, HR1⟩
  ihave Hb := (show iprop((((∃ f, ptsI d L 0 f) ∗ semVal (thr d L, .dma (semI 0)) 0 ∗ ids d L fi (half L) 0)
      ∗ ((∃ f, ptsI d L 1 f) ∗ semVal (thr d L, .dma (semI 1)) 0 ∗ ids d L fi (half L) 1)
      ∗ ((∃ f, ptsR d L 0 f) ∗ semVal (thr d L, .dma (semO 0)) 0) ∗ ((∃ f, ptsR d L 1 f) ∗ semVal (thr d L, .dma (semO 1)) 0)
      ∗ (tbl d L ft (part L) ∗ semVal (thr d L, .dma semG) 0) ∗ Todo d L fo 0
      ∗ levAts (K (F := F)).L (K (F := F)).lev ∗ ∃ W', ⌜∀ p ∈ W', p ∈ W ∨ p.2 = none⌝ ∗ owes (thr d L) O W') : sProp 𝕄)
      ⊢ Before d L fi ft fo (half L) (part L) O W from .rfl) $$ [Hi0 Hi1 Ht Hto HI0 HI1 HR0 HR1 Hs0 Hs1 Hw0 Hw1 Hg HO]
  · iframe #∗
    iexists W
    iframe ∗
    ipureintro; exact fun _ h => .inl h
  iapply (wp_wand Idealize.ShloMosaic.frame (wpE (defs₀ (F := F)) 𝒱₀ (thr d L) none) Set.univ) $$ [Hb]
  · iapply (tile d L fi ft fo (half L) (part L) O W hO hfi) $$ Hb
  iintro %_ Ha
  unfold After IFree RFree Steps.Table Owe Back
  icases Ha with ⟨⟨HI0, Hs0, Hi0⟩, ⟨HI1, Hs1, Hi1⟩, ⟨HR0, Hw0⟩, ⟨HR1, Hw1⟩, ⟨Ht, Hg⟩, Hd, -, HO⟩
  ihave HbI := (bufI_join (F := F) d L) $$ [HI0 HI1]
  · isplitl [HI0] <;> iassumption
  ihave HbR := (bufR_join (F := F) d L) $$ [HR0 HR1]
  · isplitl [HR0] <;> iassumption
  iframe ∗

end Tile

end Cert.Proof.Tasks

end
-- ==== Proof.Launch.lean ====
/-
  The whole program's run: @main flattens the ids, hands each of the 32 tiles its shares of the flat ids and of the table and
  its 200 blocks of the output, takes them back gathered and gives the output its final shape. Stated over any float
  values, with the result: row (i, j) of it is the table's row that id (i, j) names.
-/
module

public import proofs.«01_k».proof.Proof.Tasks
public import Idealize.ShloMosaic.Lib.SparseCore.Quiescent
public import Idealize.ShloMosaic.Lib.StableHlo.Run

@[expose] public section

noncomputable section

namespace Cert.Proof.Launch

open Cert.KernelIdeal Cert.KernelIdeal.Gen
open Cert.Proof.Words Cert.Proof.Views Cert.Proof.Steps Cert.Proof.Body Cert.Proof.Tasks

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ

/-- The program's definitions. -/
abbrev D [FloatOps F] : Defs nD τ sig (Elt F) (ΛP (F := F)) := Pipeline.defs pcfgs defs₀
/-- No loop of the program needs a variant. -/
abbrev 𝒱 : Variants := 𝒱₀.lift
/-- The variant a tile starts with. -/
abbrev v₀ : 𝒱.V := Sum.inl none
/-- Where the handshakes' ghost state lives. -/
abbrev EH : Emb UH (MT nD τ sig (HIx 1) (Elt F) ℕ UU ℕ) := embL

/-! ## The arrays -/

variable (m : (ℓ : Loc nD τ sig) → Buf (Elt F) ℓ) (ρ : Dev nD → PrngReg)

/-- The token ids, as given. -/
abbrev aLoc (d : Dev nD) : Loc nD τ sig := (SparseCore.T d).loc main_arg0
/-- The table. -/
abbrev tLoc (d : Dev nD) : Loc nD τ sig := (SparseCore.T d).loc main_arg1
/-- The token ids in one row. -/
abbrev iLoc (d : Dev nD) : Loc nD τ sig := (SparseCore.T d).loc main_v1
/-- The gathered rows, before their final shape. -/
abbrev oLoc (d : Dev nD) : Loc nD τ sig := (SparseCore.T d).loc main_v2
/-- The result. -/
abbrev rLoc (d : Dev nD) : Loc nD τ sig := (SparseCore.T d).loc main_v3

/-- The ids as the tiles read them: one row of 819200. -/
def flat (a : S4096x200.Idx → Elt F .i32) : S1x819200.Idx → Elt F .i32 :=
  shapeCast S1x819200 (shapeCast S819200 a shapeCasts_S4096x200_S819200) shapeCasts_S819200_S1x819200
/-- The result: the gathered rows, in the ids' shape. -/
def gathered (a : S4096x200.Idx → Elt F .i32) (t : S100000x128.Idx → Elt F .f32) : S4096x200x128.Idx → Elt F .f32 :=
  shapeCast S4096x200x128 (gval (flat a) t) shapeCasts_S819200x128_S4096x200x128

/-- The row of ids the kernel reads. -/
abbrev fi (d : Dev nD) : S1x819200.Idx → Elt F .i32 := flat (m (aLoc d))
/-- The table's words. -/
abbrev ft (d : Dev nD) : S100000x128.Idx → Elt F .f32 := m (tLoc d)
/-- What the output holds before the kernel runs. -/
abbrev fo (d : Dev nD) : S819200x128.Idx → Elt F .f32 := m (oLoc d)

/-- What the proof asks of the launch memory: every id names a row of the table. -/
def PreOK : Prop := ∀ (d : Dev nD) (x : S4096x200.Idx), (m (aLoc d) x : BitVec 32).toNat < 100000

/-- Every id of the row is a row number of the table. -/
theorem fi_lt (h : PreOK m) (d : Dev nD) (x : S1x819200.Idx) : (fi m d x : BitVec 32).toNat < 100000 := h d _

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## What the handshakes carry -/

/-- What tile `i` of SparseCore `c` is handed. -/
abbrev GoAt (d : Dev nD) (c : Fin 2) (i : Fin 16) : sProp 𝕄 := Go d (coordsV c i) (fi m d) (ft m d) (fo m d)
/-- What tile `i` of SparseCore `c` hands back. -/
abbrev BackAt (d : Dev nD) (c : Fin 2) (i : Fin 16) : sProp 𝕄 := Back d (coordsV c i) (fi m d) (ft m d)

/-- What a tile is handed can be kept in a handshake. -/
instance Go_storable (d : Dev nD) (L : grid0.Coords) (fi : S1x819200.Idx → Elt F .i32) (ft : S100000x128.Idx → Elt F .f32) (fo : S819200x128.Idx → Elt F .f32) :
    BI.Storable (upEmb : UEmb _ 𝕄) (Go d L fi ft fo) := by
  unfold Go Todo; infer_instance
/-- What a tile hands back can be kept in a handshake. -/
instance Back_storable (d : Dev nD) (L : grid0.Coords) (fi : S1x819200.Idx → Elt F .i32) (ft : S100000x128.Idx → Elt F .f32) :
    BI.Storable (upEmb : UEmb _ 𝕄) (Back d L fi ft) := by
  unfold Back Done; infer_instance

/-- A SparseCore is handed what its sixteen tiles are, and hands back what they do. -/
def P : (K (F := F)).Pay (nD := nD) (Val := Elt F) (Name := ℕ) (U := UU) where
  st := fun q d c => match q with | 0 => bigSep (Finset.univ : Finset (Fin 16)) fun i => GoAt m d c i
  dn := fun q d c => match q with | 0 => bigSep (Finset.univ : Finset (Fin 16)) fun i => BackAt m d c i
  go := fun q d c i => match q with | 0 => GoAt m d c i
  td := fun q d c i => match q with | 0 => BackAt m d c i
  x := fun _ _ => iprop(emp)

/-- What a SparseCore's tiles are handed can be kept in a handshake. -/
theorem GoCore_storable (d : Dev nD) (c : Fin 2) : BI.Storable (upEmb : UEmb _ 𝕄) (bigSep (Finset.univ : Finset (Fin 16)) fun i => GoAt m d c i) :=
  haveI : ∀ i : Fin 16, BI.Storable (upEmb : UEmb _ 𝕄) (GoAt m d c i) := fun i => Go_storable d (coordsV c i) (fi m d) (ft m d) (fo m d)
  BI.Storable.bigSep _ _ _
/-- What a SparseCore's tiles hand back can be kept in a handshake. -/
theorem BackCore_storable (d : Dev nD) (c : Fin 2) : BI.Storable (upEmb : UEmb _ 𝕄) (bigSep (Finset.univ : Finset (Fin 16)) fun i => BackAt m d c i) :=
  haveI : ∀ i : Fin 16, BI.Storable (upEmb : UEmb _ 𝕄) (BackAt m d c i) := fun i => Back_storable d (coordsV c i) (fi m d) (ft m d)
  BI.Storable.bigSep _ _ _

/-- Everything the handshakes carry can be kept in them. -/
instance P_storable : (P (F := F) m).IsStorable where
  st q d c := match q with
    | 0 => GoCore_storable m d c
  dn q d c := match q with
    | 0 => BackCore_storable m d c
  go q d c i := match q with | 0 => (inferInstance : BI.Storable (upEmb : UEmb _ 𝕄) (GoAt m d c i))
  td q d c i := match q with | 0 => (inferInstance : BI.Storable (upEmb : UEmb _ 𝕄) (BackAt m d c i))

/-- A SparseCore's share is its sixteen tiles' shares, there and back. -/
theorem vecSplit : (K (F := F)).VecSplit' (P m) 0 := by
  intro d c
  show (bigSep (Finset.univ : Finset (Fin 16)) fun i => GoAt m d c i) ⊢ |={Set.univ}=> iprop(
      (bigSep (Finset.univ : Finset (Fin 16)) fun i => GoAt m d c i)
      ∗ ((bigSep (Finset.univ : Finset (Fin 16)) fun i => BackAt m d c i) -∗ bigSep (Finset.univ : Finset (Fin 16)) fun i => BackAt m d c i))
  iintro H; imodintro
  isplitl [H]; · iexact H
  iintro H; iexact H

/-! ## The tiles' obligation -/

section Obligation

variable [FloatOps F]

/-- The program a tile runs is the kernel's body at the tile's coordinates. -/
theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) cc0_scoped1 rV (Memref.isWhole_whole _) cc0_scoped3 cc0_scoped4) ⟨⟩ c s := rfl

/-- What a tile ends with, in the order and with the waits the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile, handed its part, runs the kernel's body and hands the part back gathered. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fi m d) (ft m d) (fo m d) hF (fi_lt m hpre d) O W hO).trans (wp_mono frame _ _ fun _ => obl_post)

end Obligation

/-! ## The arrays as the tiles' pieces -/

/-- An element of the output is in the block its row falls in. -/
theorem mem_blkO (n : Fin 6400) (x : S819200x128.Idx) : x ∈ ((blkO n).view.set : Finset S819200x128.Idx) ↔ (x 0).val / 128 = n.val := by
  constructor
  · intro h
    obtain ⟨y, -, rfl⟩ := Finset.mem_map.mp h
    have e : ((blkO n).view.emb y 0).val = 128 * n.val + (y 0).val := congrArg (fun z : S819200x128.Idx => (z 0).val) (blkO_emb n y)
    have hy : (y 0).val < 128 := (y 0).isLt
    refine (congrArg (· / 128) e).trans ?_
    show (128 * n.val + (y 0).val) / 128 = n.val
    omega
  · intro h
    have hk : (x 0).val % 128 < 128 := Nat.mod_lt _ (by decide)
    refine Finset.mem_map.mpr ⟨(ix2 ⟨(x 0).val % 128, hk⟩ (x 1) : S128x128.Idx), Finset.mem_univ _, ?_⟩
    refine (blkO_emb n _).trans (Eq.trans ?_ (eq_ix2 x).symm)
    refine congrArg (fun r : Fin 819200 => (ix2 r (x 1) : S819200x128.Idx)) (Fin.ext ?_)
    show 128 * n.val + (x 0).val % 128 = (x 0).val
    omega

/-- The first block of tile `i` of SparseCore `c`. -/
theorem base_coords (c : Fin 2) (i : Fin 16) : base (coordsV c i) = 200 * (i.val + 16 * c.val) := rfl

/-- Tile (c, i)'s part of the output. -/
abbrev tileSet (c : Fin 2) (i : Fin 16) : Finset S819200x128.Idx := (Finset.range 200).biUnion fun s => (blkO (bn (coordsV c i) s)).view.set
/-- SparseCore c's part of the output. -/
abbrev coreSet (c : Fin 2) : Finset S819200x128.Idx := Finset.univ.biUnion fun i : Fin 16 => tileSet c i

/-- The output rows of a tile, by their block's number. -/
theorem mem_tileSet (c : Fin 2) (i : Fin 16) (x : S819200x128.Idx) : x ∈ tileSet c i ↔ (x 0).val / 128 / 200 = i.val + 16 * c.val := by
  have hb := base_coords c i
  constructor
  · intro h
    obtain ⟨s, hs, hx⟩ := Finset.mem_biUnion.mp h
    have hs' := Finset.mem_range.mp hs
    have := (mem_blkO _ _).mp hx
    rw [bn_val _ hs', hb] at this
    omega
  · intro h
    refine Finset.mem_biUnion.mpr ⟨(x 0).val / 128 % 200, Finset.mem_range.mpr (Nat.mod_lt _ (by decide)), (mem_blkO _ _).mpr ?_⟩
    rw [bn_val _ (Nat.mod_lt _ (by decide)), hb]
    omega

/-- The output rows of a SparseCore, by their block's number. -/
theorem mem_coreSet (c : Fin 2) (x : S819200x128.Idx) : x ∈ coreSet c ↔ (x 0).val / 128 / 200 / 16 = c.val := by
  constructor
  · intro h
    obtain ⟨i, -, hx⟩ := Finset.mem_biUnion.mp h
    have := (mem_tileSet c i x).mp hx
    omega
  · intro h
    exact Finset.mem_biUnion.mpr ⟨⟨(x 0).val / 128 / 200 % 16, Nat.mod_lt _ (by decide)⟩, Finset.mem_univ _, (mem_tileSet _ _ _).mpr (by
      show _ = (x 0).val / 128 / 200 % 16 + 16 * c.val; omega)⟩

/-- The two SparseCores' rows are all the rows. -/
theorem cores_cover : (Finset.univ.biUnion fun c : Fin 2 => coreSet c) = (Finset.univ : Finset S819200x128.Idx) := by
  refine Finset.eq_univ_iff_forall.mpr fun x => ?_
  have hx : (x 0).val < 819200 := (x 0).isLt
  exact Finset.mem_biUnion.mpr ⟨⟨(x 0).val / 128 / 200 / 16, by omega⟩, Finset.mem_univ _, (mem_coreSet _ _).mpr rfl⟩

/-- The two SparseCores' rows are apart. -/
theorem cores_disjoint : ∀ c ∈ (Finset.univ : Finset (Fin 2)), ∀ c' ∈ (Finset.univ : Finset (Fin 2)), c ≠ c' → Disjoint (coreSet c) (coreSet c') :=
  fun c _ c' _ h => Finset.disjoint_left.mpr fun x hx hx' => h (Fin.ext (((mem_coreSet c x).mp hx).symm.trans ((mem_coreSet c' x).mp hx')))
/-- The rows of a SparseCore's tiles are apart. -/
theorem tiles_disjoint (c : Fin 2) : ∀ i ∈ (Finset.univ : Finset (Fin 16)), ∀ i' ∈ (Finset.univ : Finset (Fin 16)), i ≠ i' → Disjoint (tileSet c i) (tileSet c i') :=
  fun i _ i' _ h => Finset.disjoint_left.mpr fun x hx hx' => h (Fin.ext (by
    have := (mem_tileSet c i x).mp hx; have := (mem_tileSet c i' x).mp hx'; omega))
/-- The blocks of a tile are apart. -/
theorem blocks_disjoint (L : grid0.Coords) : ∀ s ∈ Finset.range 200, ∀ s' ∈ Finset.range 200, s ≠ s' →
    Disjoint ((blkO (bn L s)).view.set : Finset S819200x128.Idx) ((blkO (bn L s')).view.set : Finset S819200x128.Idx) :=
  fun s hs s' hs' h => Finset.disjoint_left.mpr fun x hx hx' => h (by
    have e := (mem_blkO _ x).mp hx; have e' := (mem_blkO _ x).mp hx'
    rw [bn_val L (Finset.mem_range.mp hs)] at e; rw [bn_val L (Finset.mem_range.mp hs')] at e'; omega)

/-- The output, whole, is every tile's blocks. -/
theorem out_pieces (d : Dev nD) (f : S819200x128.Idx → Elt F .f32) :
    (oLoc d ↦{fullShare} f : sProp 𝕄)
      = bigSep (Finset.univ : Finset (Fin 2)) fun c => bigSep (Finset.univ : Finset (Fin 16)) fun i =>
          bigSep (Finset.range 200) fun s => ptsO d (coordsV c i) (bn (coordsV c i) s) f := by
  refine (congrArg (fun s => (oLoc d ↦[s]{fullShare} f : sProp 𝕄)) cores_cover.symm).trans ?_
  refine (pointsTo_biUnion (ℓ := oLoc d) Finset.univ coreSet cores_disjoint).trans (bigSep_congr fun c _ => ?_)
  refine (pointsTo_biUnion (ℓ := oLoc d) Finset.univ (tileSet c) (tiles_disjoint c)).trans (bigSep_congr fun i _ => ?_)
  exact pointsTo_biUnion (ℓ := oLoc d) (Finset.range 200) (fun s => (blkO (bn (coordsV c i) s)).view.set) (blocks_disjoint _)

/-- The table, whole, is every tile's share of it. -/
theorem tbl_pieces (d : Dev nD) (f : S100000x128.Idx → Elt F .f32) :
    (tLoc d ↦{fullShare} f : sProp 𝕄)
      = bigSep (Finset.univ : Finset (Fin 2)) fun c => bigSep (Finset.univ : Finset (Fin 16)) fun i => tbl d (coordsV c i) f (part (coordsV c i)) :=
  (pointsTo_piecesOf (ℓ := tLoc d) Finset.univ f (o := 2) (by decide) fullShare).trans (bigSep_congr fun _ _ =>
    pointsTo_piecesOf (ℓ := tLoc d) Finset.univ f (o := 16) (by decide) _)

/-- The flat ids, whole, are every tile's two shares of them. -/
theorem ids_pieces (d : Dev nD) (f : S1x819200.Idx → Elt F .i32) :
    (iLoc d ↦{fullShare} f : sProp 𝕄)
      = bigSep (Finset.univ : Finset (Fin 2)) fun c => bigSep (Finset.univ : Finset (Fin 16)) fun i =>
          iprop(ids d (coordsV c i) f (half (coordsV c i)) 0 ∗ ids d (coordsV c i) f (half (coordsV c i)) 1) := by
  refine (pointsTo_piecesOf (ℓ := iLoc d) Finset.univ f (o := 2) (by decide) fullShare).trans (bigSep_congr fun c _ => ?_)
  refine (pointsTo_piecesOf (ℓ := iLoc d) Finset.univ f (o := 16) (by decide) _).trans (bigSep_congr fun i _ => ?_)
  exact BI.Entails.antisymm (pointsTo_share (PosShare.mem_left_op_right _)).1 (pointsTo_share (PosShare.mem_left_op_right _)).2

/-- The three arrays of the call are what every tile is handed. -/
theorem go_all (d : Dev nD) :
    (iprop((iLoc d ↦{fullShare} fi m d) ∗ (tLoc d ↦{fullShare} ft m d) ∗ oLoc d ↦{fullShare} fo m d) : sProp 𝕄)
      = bigSep (Finset.univ : Finset (Fin 2)) fun c => bigSep (Finset.univ : Finset (Fin 16)) fun i => GoAt m d c i := by
  rw [ids_pieces, tbl_pieces, out_pieces, ← bigSep_sep', ← bigSep_sep']
  refine bigSep_congr fun c _ => ?_
  rw [← bigSep_sep', ← bigSep_sep']
  refine bigSep_congr fun i _ => ?_
  unfold GoAt Go Todo
  rw [Finset.range_eq_Ico]

/-- What every tile hands back is the three arrays, the output gathered. -/
theorem back_all (d : Dev nD) :
    (bigSep (Finset.univ : Finset (Fin 2)) fun c => bigSep (Finset.univ : Finset (Fin 16)) fun i => BackAt m d c i)
      = (iprop((iLoc d ↦{fullShare} fi m d) ∗ (tLoc d ↦{fullShare} ft m d) ∗ oLoc d ↦{fullShare} gval (fi m d) (ft m d)) : sProp 𝕄) := by
  rw [ids_pieces, tbl_pieces, out_pieces, ← bigSep_sep', ← bigSep_sep']
  refine bigSep_congr fun c _ => ?_
  rw [← bigSep_sep', ← bigSep_sep']
  refine bigSep_congr fun i _ => ?_
  unfold BackAt Back Done
  rfl

/-! ## The launch's ghost state -/

/-- The ghost state the program starts with: the handshakes', and no transfer under way. -/
def u₀ : UU := (initOf (K (F := F)).hsCells (K (F := F)).hsToks, 1)

/-- Nothing, any number of times, is nothing. -/
theorem bigSep_none {I : Type} (s : Finset I) : (bigSep s fun _ => iprop(emp)) = (iprop(emp) : sProp 𝕄) := bigSep_emp_const s

/-- The starting ghost state gives the handshakes theirs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main on the TensorCore -/

/-- The buffer of the token ids, as given. -/
abbrev a' : DevRef τ sig := Proc.devRef .tc (main_arg0 : Ref sig .tc)
/-- The buffer of the table. -/
abbrev t' : DevRef τ sig := Proc.devRef .tc (main_arg1 : Ref sig .tc)
/-- The buffer of the flattened ids. -/
abbrev u' : DevRef τ sig := Proc.devRef .tc (main_v0 : Ref sig .tc)
/-- The buffer of the ids in one row. -/
abbrev i' : DevRef τ sig := Proc.devRef .tc (main_v1 : Ref sig .tc)
/-- The buffer of the gathered rows. -/
abbrev o' : DevRef τ sig := Proc.devRef .tc (main_v2 : Ref sig .tc)
/-- The buffer of the result. -/
abbrev r' : DevRef τ sig := Proc.devRef .tc (main_v3 : Ref sig .tc)

/-- The first reshape: the ids flattened. -/
abbrev op1 : HloOp τ sig (Elt F) := StableHlo.reshape main_arg0 main_v0 (rfl : (.i32 : EltTy) = .i32) shapeCasts_S4096x200_S819200
/-- The second reshape: the ids in one row. -/
abbrev op2 : HloOp τ sig (Elt F) := StableHlo.reshape main_v0 main_v1 (rfl : (.i32 : EltTy) = .i32) shapeCasts_S819200_S1x819200
/-- The last reshape: the result's shape. -/
abbrev op3 : HloOp τ sig (Elt F) := StableHlo.reshape main_v2 main_v3 (rfl : (.f32 : EltTy) = .f32) shapeCasts_S819200x128_S4096x200x128

/-- The TensorCore's six arrays. -/
abbrev S6 : Finset (DevRef τ sig) := {a', t', u', i', o', r'}

/-- Holding the six buffers is holding each. -/
theorem held_S6 (d : Dev nD) (W : Valuation τ sig (Elt F)) :
    (held (SparseCore.T d) S6 W : sProp 𝕄) = iprop((aLoc d ↦{fullShare} W a') ∗ (tLoc d ↦{fullShare} W t') ∗ ((SparseCore.T d).loc main_v0 ↦{fullShare} W u')
      ∗ (iLoc d ↦{fullShare} W i') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The launch's contents; after the two flattenings; after the call; after the last reshape. -/
def V0 (d : Dev nD) : Valuation τ sig (Elt F) := fun b => m (d, b)
/-- What the buffers hold when the kernel starts. -/
def V2 (d : Dev nD) : Valuation τ sig (Elt F) := (op2 (F := F)).result ((op1 (F := F)).result (V0 m d))
/-- What the buffers hold when the kernel has run. -/
def V3 (d : Dev nD) : Valuation τ sig (Elt F) := Function.update (V2 m d) o' (gval (fi m d) (ft m d))
/-- What the buffers hold at the end. -/
def V4 (d : Dev nD) : Valuation τ sig (Elt F) := (op3 (F := F)).result (V3 m d)

/-- The launch's buffers are the six buffers at their launch contents. -/
theorem unscoped_held (d : Dev nD) : (unscopedBufs d (fun b => m ((SparseCore.T d).loc b)) : sProp 𝕄) = held (SparseCore.T d) S6 (V0 m d) := by
  rw [held_S6]; unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- The first two reshapes change only their own results. -/
theorem V2_keep (d : Dev nD) {b : DevRef τ sig} (h1 : b ≠ u') (h2 : b ≠ i') : V2 m d b = m (d, b) :=
  ((op2 (F := F)).result_of_not_mem _ (fun h => h2 (Finset.mem_singleton.mp h))).trans
    ((op1 (F := F)).result_of_not_mem (V0 m d) (fun h => h1 (Finset.mem_singleton.mp h)))
/-- When the kernel starts its id row is the flattened ids. -/
theorem V2_i (d : Dev nD) : V2 m d i' = fi m d := by
  unfold V2
  refine (StableHlo.reshape_result' _ _ _ _ _).trans ?_
  exact congrArg (fun v : S819200.Idx → Elt F .i32 => shapeCast S1x819200 v shapeCasts_S819200_S1x819200) (StableHlo.reshape_result' _ _ _ _ (V0 m d))
/-- The kernel changes only the gathered rows' buffer. -/
theorem V3_keep (d : Dev nD) {b : DevRef τ sig} (h : b ≠ o') : V3 m d b = V2 m d b := Function.update_of_ne h _ _
/-- The last reshape changes only the result. -/
theorem V4_keep (d : Dev nD) {b : DevRef τ sig} (h : b ≠ r') : V4 m d b = V3 m d b :=
  (op3 (F := F)).result_of_not_mem (V3 m d) (fun h' => h (Finset.mem_singleton.mp h'))
/-- The result at the end is the gathered rows in the result's shape. -/
theorem V4_r (d : Dev nD) : V4 m d r' = gathered (m (aLoc d)) (m (tLoc d)) := by
  unfold V4
  refine (StableHlo.reshape_result' _ _ _ _ _).trans ?_
  exact congrArg (fun v : S819200x128.Idx → Elt F .f32 => shapeCast S4096x200x128 v shapeCasts_S819200x128_S4096x200x128) (Function.update_self _ _ _)

/-- What @main leaves the claim: the arguments as they were, the result. -/
abbrev FIN (d : Dev nD) : sProp 𝕄 :=
  iprop((aLoc d ↦{fullShare} m (aLoc d)) ∗ (tLoc d ↦{fullShare} m (tLoc d)) ∗ rLoc d ↦{fullShare} gathered (m (aLoc d)) (m (tLoc d)))

variable [FloatOps F]

/-- @main, from the launch's buffers: two reshapes, the kernel on all tiles, and the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S6) (show ({a', u'} : Finset (DevRef τ sig)) ⊆ S6 by decide) (V := V0 m d)) $$ [Hb Hheld]
  · isplitl [Hb] <;> iassumption
  iintro ⟨Hb, Hheld⟩
  rw [wp_ret]; imodintro
  iapply (wp_hlo_within 𝒱 (SparseCore.T d) none Set.univ (op := op2) (S := S6) (show ({u', i'} : Finset (DevRef τ sig)) ⊆ S6 by decide)
    (V := (op1 (F := F)).result (V0 m d))) $$ [Hb Hheld]
  · isplitl [Hb] <;> iassumption
  iintro ⟨Hb, Hheld⟩
  rw [wp_ret]; imodintro
  ihave Hh := (show held (SparseCore.T d) S6 ((op2 (F := F)).result ((op1 (F := F)).result (V0 m d))) ⊢ (iprop((aLoc d ↦{fullShare} m (aLoc d)) ∗ (tLoc d ↦{fullShare} ft m d)
      ∗ ((SparseCore.T d).loc main_v0 ↦{fullShare} V2 m d u') ∗ (iLoc d ↦{fullShare} fi m d) ∗ (oLoc d ↦{fullShare} fo m d) ∗ rLoc d ↦{fullShare} V2 m d r') : sProp 𝕄) from
    Entails.of_eq ((held_S6 (F := F) d (V2 m d)).trans (by
      rw [V2_i, V2_keep m d (b := a') (by decide) (by decide), V2_keep m d (b := t') (by decide) (by decide), V2_keep m d (b := o') (by decide) (by decide)]))) $$ Hheld
  icases Hh with ⟨Ha, Ht, Hu, Hi, Ho, Hr⟩
  ihave Hgo := (Entails.of_eq (go_all m d)) $$ [Hi Ht Ho]
  · isplitl [Hi]; · iexact Hi
    isplitl [Ht] <;> iassumption
  iapply ((K (F := F)).wp_run (D (F := F)) 𝒱 (EH := EH) (P := P m) κ d 0) $$ [Hst Hgo Ha Hu Hr Hb Hts]
  isplitr; · iexact Hctx
  isplitl [Hst]; · iexact Hst
  isplitl [Hgo]; · iexact Hgo
  iintro ⟨Hst, Hdn⟩
  ihave Hdn' := (show (bigSep Finset.univ fun c : Fin ((K (F := F)).nCore 0) => (P m).dn 0 d c) ⊢ _ from Entails.of_eq (back_all m d)) $$ Hdn
  icases Hdn' with ⟨Hi, Ht, Ho⟩
  iapply (wp_hlo_within 𝒱 (SparseCore.T d) none Set.univ (op := op3) (S := S6) (show ({o', r'} : Finset (DevRef τ sig)) ⊆ S6 by decide) (V := V3 m d)) $$ [Hb Ha Ht Hu Hi Ho Hr]
  · isplitl [Hb]; · iexact Hb
    iapply (show (iprop((aLoc d ↦{fullShare} m (aLoc d)) ∗ (tLoc d ↦{fullShare} ft m d)
      ∗ ((SparseCore.T d).loc main_v0 ↦{fullShare} V2 m d u') ∗ (iLoc d ↦{fullShare} fi m d) ∗ (oLoc d ↦{fullShare} gval (fi m d) (ft m d)) ∗ rLoc d ↦{fullShare} V2 m d r') : sProp 𝕄)
        ⊢ held (SparseCore.T d) S6 (V3 m d) from Entails.of_eq (by
      rw [held_S6, V3_keep m d (b := a') (by decide), V3_keep m d (b := t') (by decide), V3_keep m d (b := u') (by decide), V3_keep m d (b := i') (by decide),
        V3_keep m d (b := r') (by decide), V2_i, V2_keep m d (b := a') (by decide) (by decide), V2_keep m d (b := t') (by decide) (by decide),
        show V3 m d o' = gval (fi m d) (ft m d) from Function.update_self _ _ _]))
    iframe ∗
  iintro ⟨Hb, Hheld⟩
  ihave Hh := (show held (SparseCore.T d) S6 ((op3 (F := F)).result (V3 m d)) ⊢ (iprop((aLoc d ↦{fullShare} m (aLoc d)) ∗ (tLoc d ↦{fullShare} m (tLoc d))
      ∗ ((SparseCore.T d).loc main_v0 ↦{fullShare} V4 m d u') ∗ (iLoc d ↦{fullShare} V4 m d i') ∗ (oLoc d ↦{fullShare} V4 m d o')
      ∗ rLoc d ↦{fullShare} gathered (m (aLoc d)) (m (tLoc d))) : sProp 𝕄) from
    Entails.of_eq ((held_S6 (F := F) d (V4 m d)).trans (by
      rw [V4_r, V4_keep m d (b := a') (by decide), V4_keep m d (b := t') (by decide), V3_keep m d (b := a') (by decide), V3_keep m d (b := t') (by decide),
        V2_keep m d (b := a') (by decide) (by decide), V2_keep m d (b := t') (by decide) (by decide)]))) $$ Hheld
  icases Hh with ⟨Ha, Ht, -, -, -, Hr⟩
  rw [wp_ret]; imodintro; imodintro
  isplitl [Hst]; · iexact Hst
  isplitr [Hb Hts]
  · isplitl [Ha]; · iexact Ha
    isplitl [Ht] <;> iassumption
  isplitl [Hb] <;> iassumption

/-! ## The program's run -/

/-- What is read of a final state: the result, and the arguments as they were. -/
def fq (d : Dev nD) (s' : Phys nD τ sig (Elt F)) : Prop :=
  s'.mem.mem (rLoc d) = gathered (m (aLoc d)) (m (tLoc d)) ∧ s'.mem.mem (aLoc d) = m (aLoc d) ∧ s'.mem.mem (tLoc d) = m (tLoc d)

set_option maxRecDepth 16384 in
/-- What @main ends with gives that of the final state. -/
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := gathered (m (aLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result, the arguments as they were, every semaphore at zero. -/
def QC : PUnit × MemSt nD τ sig (Elt F) → Prop := fun r =>
  (∀ c : Dev nD, r.2.mem (rLoc c) = gathered (m (aLoc c)) (m (tLoc c)) ∧ r.2.mem (aLoc c) = m (aLoc c) ∧ r.2.mem (tLoc c) = m (tLoc c))
    ∧ r.2.sem = fun _ => 0

/-- The whole program's run, from any launch memory whose ids name rows of the table. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Value.lean ====
/-
The value the kernel leaves, and the reference's, read index by index.

Entry `(i, j, k)` of the kernel's result is word `k` of the table row whose number is token id `(i, j)`. The reference first adds the
table's row count to a negative id, then masks the rows whose id lies outside the table; for ids in the table's range neither step changes
anything, and what is left of it is the same table word. The range itself is read off the precondition `in_range`, one id at a time.
-/
module

public import proofs.«01_k».proof.Proof.Launch
public import proofs.«01_k».proof.Proof.Gen.ReferenceIdeal.Run
public import proofs.«01_k».proof.Proof.Gen.Reference.Run
public import proofs.«01_k».proof.Proof.Gen.Pre_in_range
public import Idealize.ShloMosaic.Lib.ReduceAll
public import Idealize.ShloMosaic.Lib.Pipeline.Value

@[expose] public section

noncomputable section

namespace Cert.Proof.Value

open Idealize.ShloMosaic Idealize.ShloMosaic.ValueIdx Idealize.SL.Sem
open Cert.Proof.Views Cert.Proof.Launch

variable {F : FTy → Type} [FloatOps F]

/-- The token ids as the kernel's index row holds them: entry `200 i + j` of the row is id `(i, j)`. -/
theorem flat_apply (a : Cert.KernelIdeal.S4096x200.Idx → Elt F .i32) (i : Fin 4096) (j : Fin 200) (h : 200 * i.val + j.val < 819200) :
    flat (F := F) a (ix2 0 ⟨200 * i.val + j.val, h⟩) = a (ix2 i j) := by
  unfold flat
  rw [shapeCast_apply _ _ _ (ix1 ⟨200 * i.val + j.val, h⟩) (by
      rw [Shape.rowMajor_val_one, Shape.rowMajor_val_two]
      show 200 * i.val + j.val = 0 * 819200 + (200 * i.val + j.val)
      omega)]
  exact shapeCast_apply _ _ _ (ix2 i j) (by
    rw [Shape.rowMajor_val_one, Shape.rowMajor_val_two]
    show i.val * 200 + j.val = 200 * i.val + j.val
    omega)

/-- Entry `(i, j, k)` of the kernel's result: word `k` of the table row that id `(i, j)` names. -/
theorem gathered_apply (a : Cert.KernelIdeal.S4096x200.Idx → Elt F .i32) (t : Cert.KernelIdeal.S100000x128.Idx → Elt F .f32)
    (i : Fin 4096) (j : Fin 200) (k : Fin 128) (ha : (a (ix2 i j) : BitVec 32).toNat < 100000) :
    gathered a t (ix3 i j k) = t (ix2 ⟨(a (ix2 i j) : BitVec 32).toNat, ha⟩ k) := by
  have hr : 200 * i.val + j.val < 819200 := by have := i.isLt; have := j.isLt; omega
  unfold gathered
  rw [shapeCast_apply _ _ _ (ix2 ⟨200 * i.val + j.val, hr⟩ k) (by
      rw [Shape.rowMajor_val_two, Shape.rowMajor_val_three]
      show (200 * i.val + j.val) * 128 + k.val = (i.val * 200 + j.val) * 128 + k.val
      omega)]
  unfold gval
  refine congrArg t (congrArg (fun r => ix2 r k) (Fin.ext ?_))
  show (flat a (ix2 0 ⟨200 * i.val + j.val, hr⟩) : BitVec 32).toNat % 100000 = (a (ix2 i j) : BitVec 32).toNat
  rw [flat_apply]
  exact Nat.mod_eq_of_lt ha

section Ref
open Cert.ReferenceIdeal Cert.ReferenceIdeal.Gen

/-- The ids the reference looks up: an id below zero counts from the table's end. -/
def wrapped (a : S4096x200.Idx → Elt F .i32) : S4096x200.Idx → Elt F .i32 :=
  select (cmpi .slt a (broadcastInDim S4096x200 ![] bcast_S_S4096x200 (constantI S_ 32 0#32)))
    (addi a (broadcastInDim S4096x200 ![] bcast_S_S4096x200 (constantI S_ 32 100000#32))) a

/-- A word below 100000 is not negative, read signed. -/
theorem not_neg {w : BitVec 32} (hw : w.toNat < 100000) : IntOp.cmpi .slt w 0#32 = 0#1 := by
  have h : BitVec.slt w 0#32 = false := by
    rw [BitVec.slt_eq_decide, decide_eq_false_iff_not, BitVec.toInt_eq_toNat_cond, BitVec.toInt_zero]
    split <;> omega
  show BitVec.ofBool (BitVec.slt w 0#32) = 0#1
  rw [h]; rfl

/-- An id in the table's range is looked up as it is. -/
theorem wrapped_apply (a : S4096x200.Idx → Elt F .i32) (x : S4096x200.Idx) (ha : (a x : BitVec 32).toNat < 100000) :
    wrapped (F := F) a x = a x := by
  show (if IntOp.cmpi .slt (a x : BitVec 32) 0#32 = 1#1 then _ else a x) = a x
  rw [not_neg ha]
  exact if_neg (by decide)

/-- The start indices of the reference's gather: the wrapped ids with one axis of size one after them. -/
def starts (a : S4096x200.Idx → Elt F .i32) : S4096x200x1.Idx → Elt F .i32 :=
  broadcastInDim S4096x200x1 ![0, 1] bcast_S4096x200_S4096x200x1_0_1 (wrapped a)

/-- Which ids the reference takes to be inside the table. -/
def inside (a : S4096x200.Idx → Elt F .i32) : S4096x200x1.Idx → Elt F .i1 :=
  andi (cmpi .sge (starts a) (broadcastInDim S4096x200x1 ![] bcast_S_S4096x200x1 (constantI S_ 32 0#32)))
    (cmpi .sle (starts a) (broadcastInDim S4096x200x1 ![0, 1, 2] bcast_S1x1x1_S4096x200x1_0_1_2
      (broadcastInDim S1x1x1 ![2] bcast_S1_S1x1x1_2 (constantI S1 32 99999#32))))

/-- The reference's result as its run states it: the gathered rows where the id is inside the table, the not-a-number word elsewhere. -/
def looked (a : S4096x200.Idx → Elt F .i32) (t : S100000x128.Idx → Elt F .f32) : S4096x200x128.Idx → Elt F .f32 :=
  select (broadcastInDim S4096x200x128 ![0, 1] bcast_S4096x200_S4096x200x128_0_1
      (Host.reduce IntOp.andi (inside a) (constantI S_ 1 1#1) reducesTo_S4096x200x1_S4096x200_d2 h_S_))
    (Host.gather gather_S100000x128_S4096x200x1_S4096x200x128_2_0_n_n_0_2_1128 t (starts a))
    (broadcastInDim S4096x200x128 ![] bcast_S_S4096x200x128 (constant S_ .f32 0x7FC00000#32))

/-- An index of the start indices is its first two coordinates and zero. -/
theorem starts_apply (a : S4096x200.Idx → Elt F .i32) (y : S4096x200x1.Idx) :
    starts (F := F) a y = wrapped a (ix2 (y 0) (y 1)) := by
  unfold starts
  refine broadcastInDim_apply _ _ _ _ _ fun ax => ?_
  match ax with
  | ⟨0, _⟩ => rfl
  | ⟨1, _⟩ => rfl

/-- A word below 100000 passes both of the reference's signed bounds. -/
theorem bounds {w : BitVec 32} (hw : w.toNat < 100000) :
    IntOp.andi (IntOp.cmpi .sge w 0#32) (IntOp.cmpi .sle w 99999#32) = 1#1 := by
  have hi : w.toInt = w.toNat := by rw [BitVec.toInt_eq_toNat_cond]; split <;> omega
  have h1 : BitVec.sle 0#32 w = true := by
    rw [BitVec.sle_eq_decide, decide_eq_true_eq, hi, BitVec.toInt_zero]; omega
  have h2 : BitVec.sle w 99999#32 = true := by
    rw [BitVec.sle_eq_decide, decide_eq_true_eq, hi, show (99999#32).toInt = 99999 by decide]; omega
  show IntOp.andi (BitVec.ofBool (BitVec.sle 0#32 w)) (BitVec.ofBool (BitVec.sle w 99999#32)) = 1#1
  rw [h1, h2]; rfl

/-- With every id in the table's range the reference finds every id inside the table. -/
theorem inside_apply (a : S4096x200.Idx → Elt F .i32) (ha : ∀ x, (a x : BitVec 32).toNat < 100000) (y : S4096x200x1.Idx) :
    inside (F := F) a y = 1#1 := by
  show IntOp.andi (IntOp.cmpi .sge (starts (F := F) a y) 0#32) (IntOp.cmpi .sle (starts (F := F) a y) 99999#32) = 1#1
  rw [starts_apply, wrapped_apply a _ (ha _)]
  exact bounds (ha _)

/-- The reference's gather at `(i, j, k)`: word `k` of the table row that start index `(i, j, 0)` names, for one inside the table. -/
theorem gather_apply (t : S100000x128.Idx → Elt F .f32) (s : S4096x200x1.Idx → Elt F .i32) (i : Fin 4096) (j : Fin 200) (k : Fin 128)
    (hs : (s (ix3 i j 0) : BitVec 32).toNat < 100000) :
    Host.gather gather_S100000x128_S4096x200x1_S4096x200x128_2_0_n_n_0_2_1128 t s (ix3 i j k)
      = t (ix2 ⟨(s (ix3 i j 0) : BitVec 32).toNat, hs⟩ k) := by
  set d := gather_S100000x128_S4096x200x1_S4096x200x128_2_0_n_n_0_2_1128 with hd
  have hi : (s (ix3 i j 0) : BitVec 32).toInt.toNat = (s (ix3 i j 0) : BitVec 32).toNat := by
    rw [BitVec.toInt_eq_toNat_cond]; split <;> omega
  unfold Host.gather
  refine congrArg t (funext fun ax => Fin.ext ?_)
  show d.start (ix3 i j k) s ax + d.batchCoord (ix3 i j k) ax + d.offCoord (ix3 i j k) ax = _
  rw [d.batchCoord_eq_zero _ _ List.not_mem_nil]
  obtain rfl | rfl : ax = 0 ∨ ax = 1 := by
    match ax with
    | ⟨0, _⟩ => exact Or.inl rfl
    | ⟨1, _⟩ => exact Or.inr rfl
  · rw [d.offCoord_eq_zero _ _ fun h => ((d.mem_sKept _).mp h).1 (List.mem_singleton.mpr rfl)]
    unfold GatherDims.start
    rw [dif_pos (show (0 : Fin 2) ∈ d.startIndexMap from List.mem_singleton.mpr rfl)]
    have hx : d.siIdx (ix3 i j k) ⟨d.startIndexMap.idxOf (0 : Fin 2), List.idxOf_lt_length_iff.2 (List.mem_singleton.mpr rfl)⟩
        = ix3 i j 0 := by
      funext b
      match b with
      | ⟨0, _⟩ => rfl
      | ⟨1, _⟩ => rfl
      | ⟨2, _⟩ => rfl
    rw [hx]
    show min (s (ix3 i j 0) : BitVec 32).toInt.toNat (100000 - 1) + 0 + 0 = (s (ix3 i j 0) : BitVec 32).toNat
    rw [hi]; omega
  · unfold GatherDims.start
    rw [dif_neg (show (1 : Fin 2) ∉ d.startIndexMap from fun h => absurd (List.mem_singleton.mp h) (by decide))]
    show 0 + 0 + k.val = k.val
    omega

/-- A choice between two arrays reads the first where the choosing bit is one. -/
theorem select_of_one {s : Shape} {α : Type} {c : IVec s 1} {x y : s.Idx → α} {j : s.Idx} (h : c j = 1#1) : select c x y j = x j :=
  if_pos h

/-- With every id in the table's range the reference's result is the kernel's: the table's rows at the ids. -/
theorem looked_eq (a : S4096x200.Idx → Elt F .i32) (t : S100000x128.Idx → Elt F .f32)
    (ha : ∀ x, (a x : BitVec 32).toNat < 100000) : looked a t = gathered a t := by
  funext y
  obtain ⟨i, j, k, rfl⟩ : ∃ (i : Fin 4096) (j : Fin 200) (k : Fin 128), y = ix3 i j k := ⟨y 0, y 1, y 2, eq_ix3 y⟩
  rw [gathered_apply a t i j k (ha _)]
  have hs : starts (F := F) a (ix3 i j 0) = a (ix2 i j) := (starts_apply a _).trans (wrapped_apply a _ (ha _))
  have hm : broadcastInDim S4096x200x128 ![0, 1] bcast_S4096x200_S4096x200x128_0_1
      (Host.reduce IntOp.andi (inside (F := F) a) (constantI S_ 1 1#1) reducesTo_S4096x200x1_S4096x200_d2 h_S_) (ix3 i j k) = 1#1 := by
    unfold broadcastInDim
    exact Host.reduce_andi_one _ _ _ _ _ rfl (inside_apply a ha)
  refine (select_of_one hm).trans ((gather_apply t _ i j k (by rw [hs]; exact ha _)).trans ?_)
  exact congrArg (fun r => t (ix2 r k)) (Fin.ext (congrArg BitVec.toNat hs))

end Ref

/-- What the precondition says of one id: it is a row number of the table. -/
theorem in_range (a : Cert.Pre_in_range.S4096x200.Idx → Elt F .i32) (t : Cert.Pre_in_range.S100000x128.Idx → Elt F .f32)
    (h : @Cert.Pre_in_range.fn Cert.Pre_in_range.Gen.facts F _ a t = fun _ => 1#1) (x : Cert.Pre_in_range.S4096x200.Idx) :
    (a x : BitVec 32).toNat < 100000 := by
  have e := Host.reduce_andi_all _ _ _ _ _ (congrFun h (Shape.Idx.first (by decide))) x
  have e' : IntOp.andi (IntOp.cmpi .sge (a x : BitVec 32) 0#32) (IntOp.cmpi .slt (a x : BitVec 32) 100000#32) = 1#1 := e
  have hb : ∀ p q : Bool, IntOp.andi (BitVec.ofBool p) (BitVec.ofBool q) = 1#1 → p = true ∧ q = true := by decide
  obtain ⟨h1, h2⟩ := hb _ _ e'
  change BitVec.sle 0#32 (a x) = true at h1
  change BitVec.slt (a x) 100000#32 = true at h2
  rw [BitVec.sle_eq_decide, decide_eq_true_eq, BitVec.toInt_zero] at h1
  rw [BitVec.slt_eq_decide, decide_eq_true_eq, show (100000#32).toInt = 100000 by decide] at h2
  rw [BitVec.toInt_eq_toNat_cond] at h1 h2
  split at h1 <;> omega

end Cert.Proof.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_range
public import proofs.«01_k».proof.Proof.Value

@[expose] public section

noncomputable section

namespace Cert.Proof

open Idealize.ShloMosaic Idealize.SL.Sem
open Cert.Proof.Launch

attribute [local instance] Cert.Kernel.Gen.facts Cert.KernelIdeal.Gen.facts Cert.ReferenceIdeal.Gen.facts Cert.Reference.Gen.facts
  Cert.Pre_in_range.Gen.facts

/-- The precondition at the words themselves: every token id is a row number of the table. -/
theorem ok_bits (m : (ℓ : Loc Cert.Kernel.nD Cert.Kernel.τ Cert.Kernel.sig) → Buf (Elt Bits) ℓ) (h : Cert.Pre_Kernel m) :
    PreOK (F := Bits) m :=
  fun d x => Value.in_range (F := Bits) _ _ (h d) x

/-- The precondition at exact real numbers: every token id is a row number of the table. -/
theorem ok_ideal (m : (ℓ : Loc Cert.KernelIdeal.nD Cert.KernelIdeal.τ Cert.KernelIdeal.sig) → Buf (Elt Ideal) ℓ) (h : Cert.Pre_KernelIdeal m) :
    PreOK (F := Ideal) m :=
  fun d x => Value.in_range (F := Ideal) _ _ (h d) x

/-- The kernel, at the words themselves, runs, leaves its arguments as they were and every counter at zero. -/
theorem frame_kernel : Cert.quiescent_Kernel := fun m ρ hp =>
  (θ_run Cert.KernelIdeal.defs _ _).mono (fun _ h => ⟨fun c => (h.1 c).2, h.2⟩) (run_main (F := Bits) m ρ (ok_bits m hp))

/-- The kernel, at exact real numbers, runs, leaves its arguments as they were and every counter at zero. -/
theorem frame_ideal : Cert.quiescent_KernelIdeal := fun m ρ hp =>
  (θ_run Cert.KernelIdeal.defs _ _).mono (fun _ h => ⟨fun c => (h.1 c).2, h.2⟩) (run_main (F := Ideal) m ρ (ok_ideal m hp))

/-- The reference, at exact real numbers, runs and leaves its arguments as they were; it declares no semaphore. -/
theorem frame_reference_ideal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same of the reference from memories whose ids are in range. -/
theorem frame_reference_ideal_in_range : Cert.quiescent_ReferenceIdeal_pre_in_range := fun m ρ _ =>
  frame_reference_ideal m ρ trivial

/-- The reference, at the words themselves, runs and leaves its arguments as they were; it declares no semaphore. -/
theorem frame_reference : Cert.quiescent_Reference := fun m ρ _ =>
  (θ_run Cert.Reference.defs _ _).mono
    (fun r h => ⟨fun c => (h c).2, sem_eq_zero_of_no_sems (by decide) r.2⟩) (Cert.Reference.Value.run (F := Bits) m ρ)

/-- At exact real numbers the kernel and the reference end with the same result: the table's rows at the token ids. -/
theorem algebraic : Cert.algebraic_KernelIdeal_ReferenceIdeal := by
  intro m ρ m' ρ' hp hagree
  have ok := ok_ideal m hp
  refine ⟨fun c => gathered (F := Ideal) (m (aLoc c)) (m (tLoc c)),
    (θ_run Cert.KernelIdeal.defs _ _).mono (fun _ h => h.1) (run_main (F := Ideal) m ρ ok), ?_⟩
  refine (θ_run Cert.ReferenceIdeal.defs _ _).mono (fun _ h c => ⟨(h c).1.trans ?_, (h c).2⟩) (Cert.ReferenceIdeal.Value.run (F := Ideal) m' ρ')
  rw [(hagree c).1, (hagree c).2]
  exact Value.looked_eq (F := Ideal) (m (aLoc c)) (m (tLoc c)) (ok c)

/-- At the machine's words the kernel and the reference end with the same result: the table's rows at the token ids. -/
theorem bitexact : Cert.bitexact_Kernel_Reference := by
  intro m ρ m' ρ' hp hagree
  have ok := ok_bits m hp
  refine ⟨fun c => gathered (F := Bits) (m (aLoc c)) (m (tLoc c)),
    (θ_run Cert.KernelIdeal.defs _ _).mono (fun _ h => h.1) (run_main (F := Bits) m ρ ok), ?_⟩
  refine (θ_run Cert.Reference.defs _ _).mono (fun _ h c => ⟨(h c).1.trans ?_, (h c).2⟩) (Cert.Reference.Value.run (F := Bits) m' ρ')
  rw [(hagree c).1, (hagree c).2]
  exact Value.looked_eq (F := Bits) (m (aLoc c)) (m (tLoc c)) (ok c)

/-- Everything the certificate claims. -/
theorem claim : Cert.Claim :=
  ⟨Cert.Kernel.Gen.facts, Cert.KernelIdeal.Gen.facts, Cert.ReferenceIdeal.Gen.facts, Cert.Reference.Gen.facts, Cert.Pre_in_range.Gen.facts,
    frame_kernel, frame_ideal, frame_reference_ideal, frame_reference_ideal_in_range, frame_reference, trivial, algebraic, bitexact⟩

end Cert.Proof

end
